-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelIdeal : Cert.KernelIdeal.Facts) (hReferenceIdeal : Cert.ReferenceIdeal.Facts) (hPre_finite_args : Cert.Pre_finite_args.Facts),
    quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ algebraic_KernelIdeal_ReferenceIdeal_pre_finite_args (hKernelIdeal := hKernelIdeal) (hReferenceIdeal := hReferenceIdeal) (hPre_finite_args := hPre_finite_args)
-- ==== Pre_finite_args.lean ====
abbrev S16x768x576 : Shape := ⟨3, ![16, 768, 576]⟩
abbrev S768x64 : Shape := ⟨2, ![768, 64]⟩
abbrev S64 : Shape := ⟨1, ![64]⟩
abbrev S64x768 : Shape := ⟨2, ![64, 768]⟩
abbrev S768 : Shape := ⟨1, ![768]⟩
abbrev S8192x64 : Shape := ⟨2, ![8192, 64]⟩
abbrev S_ : Shape := ⟨0, ![]⟩

class Facts : Prop where
  bcast_S_S16x768x576 : S_.BroadcastsInDim S16x768x576 (![] : Fin 0 → Fin S16x768x576.rank)
  reducesTo_S16x768x576_S_d0_1_2 : S16x768x576.ReducesTo [0, 1, 2] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S16x768x576 .f32) (main_arg1 : FVec F S768x64 .f32) (main_arg2 : FVec F S64 .f32) (main_arg3 : FVec F S64x768 .f32) (main_arg4 : FVec F S768 .f32) (main_arg5 : FVec F S8192x64 .f32) : IVec S_ 1 × IVec S_ 1 × IVec S_ 1 × IVec S_ 1 :=
  let main_v0 : FVec F S16x768x576 .f32 := Host.absf main_arg0
  let main_cst : FVec F S_ .f32 := constant S_ .f32 0x7F800000#32
  let main_v1 : FVec F S16x768x576 .f32 := broadcastInDim S16x768x576 ![] bcast_S_S16x768x576 main_cst
  let main_v2 : IVec S16x768x576 1 := cmpf .olt main_v0 main_v1
  let main_c : IVec S_ 1 := constantI S_ 1 1#1
  let main_v3 : IVec S_ 1 := (fun x v => Host.reduce IntOp.andi x v reducesTo_S16x768x576_S_d0_1_2 h_S_) main_v2 main_c
  let main_v4 : FVec F S768x64 .f32 := Host.absf main_arg1
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S8192x64 .f32 := Host.absf main_arg5
  let main_cst_4 : FVec F S_ .f32 := constant S_ .f32 0x7F800000#32
  let main_v13 : FVec F S8192x64 .f32 := broadcastInDim S8192x64 ![] bcast_S_S8192x64 main_cst_4
  let main_v14 : IVec S8192x64 1 := cmpf .olt main_v12 main_v13
  let main_c_5 : IVec S_ 1 := constantI S_ 1 1#1
  let main_v15 : IVec S_ 1 := (fun x v => Host.reduce IntOp.andi x v reducesTo_S8192x64_S_d0_1 h_S_) main_v14 main_c_5
  (main_v3, main_v7, main_v11, main_v15)
-- ==== KernelIdeal.lean ====
abbrev S16x768x576 : Shape := ⟨3, ![16, 768, 576]⟩
abbrev S768x64 : Shape := ⟨2, ![768, 64]⟩
abbrev S64 : Shape := ⟨1, ![64]⟩
abbrev S64x768 : Shape := ⟨2, ![64, 768]⟩
abbrev S768 : Shape := ⟨1, ![768]⟩
abbrev S8192x64 : Shape := ⟨2, ![8192, 64]⟩
abbrev S1x64 : Shape := ⟨2, ![1, 64]⟩
abbrev S16x1x576 : Shape := ⟨3, ![16, 1, 576]⟩
abbrev S1x1 : Shape := ⟨2, ![1, 1]⟩
abbrev S8192x128 : Shape := ⟨2, ![8192, 128]⟩
abbrev S1x768x576 : Shape := ⟨3, ![1, 768, 576]⟩
abbrev S1x1x576 : Shape := ⟨3, ![1, 1, 576]⟩
abbrev S768x576 : Shape := ⟨2, ![768, 576]⟩
abbrev S576x64 : Shape := ⟨2, ![576, 64]⟩
abbrev S576 : Shape := ⟨1, ![576]⟩
abbrev S576x1 : Shape := ⟨2, ![576, 1]⟩
abbrev S576x128 : Shape := ⟨2, ![576, 128]⟩
abbrev S2048x64 : Shape := ⟨2, ![2048, 64]⟩
abbrev S2048 : Shape := ⟨1, ![2048]⟩
abbrev S1x2048 : Shape := ⟨2, ![1, 2048]⟩
abbrev S576x2048 : Shape := ⟨2, ![576, 2048]⟩
abbrev S1x128 : Shape := ⟨2, ![1, 128]⟩
abbrev S1x576x1 : Shape := ⟨3, ![1, 576, 1]⟩
abbrev S1 : Shape := ⟨1, ![1]⟩
abbrev S1x1x1 : Shape := ⟨3, ![1, 1, 1]⟩
abbrev S9216 : Shape := ⟨1, ![9216]⟩
abbrev S32x3x96 : Shape := ⟨3, ![32, 3, 96]⟩
abbrev S32x3x96x128 : Shape := ⟨4, ![32, 3, 96, 128]⟩
abbrev S3x96 : Shape := ⟨2, ![3, 96]⟩
abbrev S3x96x128 : Shape := ⟨3, ![3, 96, 128]⟩
abbrev S_ : Shape := ⟨0, ![]⟩
abbrev S1x3x96 : Shape := ⟨3, ![1, 3, 96]⟩
abbrev S1x96x128 : Shape := ⟨3, ![1, 96, 128]⟩
abbrev S96x128 : Shape := ⟨2, ![96, 128]⟩
abbrev S1x96 : Shape := ⟨2, ![1, 96]⟩
abbrev S96 : Shape := ⟨1, ![96]⟩
abbrev S1x3x96x128 : Shape := ⟨4, ![1, 3, 96, 128]⟩
abbrev S9216x128 : Shape := ⟨2, ![9216, 128]⟩
abbrev S16x576x128 : Shape := ⟨3, ![16, 576, 128]⟩
abbrev S768x1 : Shape := ⟨2, ![768, 1]⟩
abbrev S1x576x128 : Shape := ⟨3, ![1, 576, 128]⟩
abbrev S16x576 : Shape := ⟨2, ![16, 576]⟩

abbrev nBuf : Table → Nat
  | .hbm => 21
  | .local .tc .vmem => 14
  | .local .tc .smem => 1
  | .local .scVector .vmem => 2
  | _ => 0

abbrev bufTy : (tb : Table) → Fin (nBuf tb) → BufTy
  | .hbm, ⟨0, _⟩ => ⟨S16x768x576, .f32⟩
  | .hbm, ⟨1, _⟩ => ⟨S768x64, .f32⟩
  | .hbm, ⟨2, _⟩ => ⟨S64, .f32⟩
  | .hbm, ⟨3, _⟩ => ⟨S64x768, .f32⟩
  | .hbm, ⟨4, _⟩ => ⟨S768, .f32⟩
  | .hbm, ⟨5, _⟩ => ⟨S8192x64, .f32⟩
  | .hbm, ⟨6, _⟩ => ⟨S1x64, .f32⟩
  | .hbm, ⟨7, _⟩ => ⟨S16x1x576, .i32⟩
  | .hbm, ⟨8, _⟩ => ⟨S1x1, .f32⟩
  | .hbm, ⟨9, _⟩ => ⟨S8192x128, .f32⟩
  | .hbm, ⟨10, _⟩ => ⟨S9216, .i32⟩
  | .hbm, ⟨11, _⟩ => ⟨S32x3x96, .i32⟩
  | .hbm, ⟨12, _⟩ => ⟨S32x3x96x128, .f32⟩
  | .hbm, ⟨13, _⟩ => ⟨S9216x128, .f32⟩
  | .hbm, ⟨14, _⟩ => ⟨S16x576x128, .f32⟩
  | .hbm, ⟨15, _⟩ => ⟨S768x1, .f32⟩
  | .hbm, ⟨16, _⟩ => ⟨S16x768x576, .f32⟩
  | .hbm, ⟨17, _⟩ => ⟨S16x576, .i32⟩
  | .hbm, ⟨18, _⟩ => ⟨S_, .f32⟩
  | .hbm, ⟨19, _⟩ => ⟨S_, .f32⟩
  | .hbm, ⟨20, _⟩ => ⟨S_, .f32⟩
  | .local .tc .vmem, ⟨0, _⟩ => ⟨S1x768x576, .f32⟩
  | .local .tc .vmem, ⟨1, _⟩ => ⟨S1x768x576, .f32⟩
  | .local .tc .vmem, ⟨2, _⟩ => ⟨S768x64, .f32⟩
  | .local .tc .vmem, ⟨3, _⟩ => ⟨S1x64, .f32⟩
  | .local .tc .vmem, ⟨4, _⟩ => ⟨S8192x64, .f32⟩
  | .local .tc .vmem, ⟨5, _⟩ => ⟨S1x1x576, .i32⟩
  | .local .tc .vmem, ⟨6, _⟩ => ⟨S1x1x576, .i32⟩
  | .local .tc .vmem, ⟨7, _⟩ => ⟨S8192x128, .f32⟩
  | .local .tc .vmem, ⟨8, _⟩ => ⟨S1x576x128, .f32⟩
  | .local .tc .vmem, ⟨9, _⟩ => ⟨S1x576x128, .f32⟩
  | .local .tc .vmem, ⟨10, _⟩ => ⟨S64x768, .f32⟩
  | .local .tc .vmem, ⟨11, _⟩ => ⟨S768x1, .f32⟩
  | .local .tc .vmem, ⟨12, _⟩ => ⟨S1x768x576, .f32⟩
  | .local .tc .vmem, ⟨13, _⟩ => ⟨S1x768x576, .f32⟩
  | .local .tc .smem, ⟨0, _⟩ => ⟨S1x1, .f32⟩
  | .local .scVector .vmem, ⟨0, _⟩ => ⟨S3x96, .i32⟩
  | .local .scVector .vmem, ⟨1, _⟩ => ⟨S3x96x128, .f32⟩
  | _, _ => ⟨S16x768x576, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v1_2_scv : Ref sig .scVector := ⟨.hbm, 9, rfl⟩
abbrev main_v3_scv : Ref sig .scVector := ⟨.hbm, 11, rfl⟩
abbrev main_v4_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg6_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg3_1 : Ref sig .tc := ⟨.vmem, 13, rfl⟩
abbrev cc0_stg5_0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_41 : BitVec 32 := 0#32
  let v792 : BitVec 1 := Scalar.cmpi .eq arg0 c0_i32_41
  let v793 : BitVec 32 := Scalar.extui v792
  let c0_i32_42 : BitVec 32 := 0#32
  let v794 : BitVec 1 := Scalar.cmpi .ne v793 c0_i32_42
  v794

def k0_cond3 (i : grid0.Coords) : BitVec 1 :=
  let arg0 : BitVec 32 := BitVec.ofNat 32 (i 0).val
  let c0_i32_43 : BitVec 32 := 0#32
  let v795 : BitVec 1 := Scalar.cmpi .sgt arg0 c0_i32_43
  let v796 : BitVec 32 := Scalar.extui v795
  let c0_i32_44 : BitVec 32 := 0#32
  let v797 : BitVec 1 := Scalar.cmpi .ne v796 c0_i32_44
  v797

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x768x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x576 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r0 : BitVec 32 := 0#32
  let c0_i32_41_r0 : BitVec 32 := 0#32
  ![v1.toNat, 0, 0]
def k1_off2 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r1 : BitVec 32 := 0#32
  let c0_i32_41_r1 : BitVec 32 := 0#32
  let c0_i32_42_r1 : BitVec 32 := 0#32
  ![v1.toNat, 0, 0, 0]
abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x576x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x768x576 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x768x576 : Shape := ⟨3, ![16, 768, 576]⟩
abbrev S768x64 : Shape := ⟨2, ![768, 64]⟩
abbrev S64 : Shape := ⟨1, ![64]⟩
abbrev S64x768 : Shape := ⟨2, ![64, 768]⟩
abbrev S768 : Shape := ⟨1, ![768]⟩
abbrev S8192x64 : Shape := ⟨2, ![8192, 64]⟩
abbrev S16x576x768 : Shape := ⟨3, ![16, 576, 768]⟩
abbrev S16x576x64 : Shape := ⟨3, ![16, 576, 64]⟩
abbrev S1x1x64 : Shape := ⟨3, ![1, 1, 64]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S64x8192 : Shape := ⟨2, ![64, 8192]⟩
abbrev S9216x8192 : Shape := ⟨2, ![9216, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S1x1x768 : Shape := ⟨3, ![1, 1, 768]⟩
abbrev S16x576 : Shape := ⟨2, ![16, 576]⟩

abbrev nBuf : Space → Nat
  | .hbm => 72
  | .vmem => 0
  | .smem => 0
  | _ => 0

abbrev bufTy : (tb : Table) → Fin (tcTables nBuf tb) → BufTy
  | .hbm, ⟨0, _⟩ => ⟨S16x768x576, .f32⟩
  | .hbm, ⟨1, _⟩ => ⟨S768x64, .f32⟩
  | .hbm, ⟨2, _⟩ => ⟨S64, .f32⟩
  | .hbm, ⟨3, _⟩ => ⟨S64x768, .f32⟩
  | .hbm, ⟨4, _⟩ => ⟨S768, .f32⟩
  | .hbm, ⟨5, _⟩ => ⟨S8192x64, .f32⟩
  | .hbm, ⟨6, _⟩ => ⟨S16x576x768, .f32⟩
  | .hbm, ⟨7, _⟩ => ⟨S16x576x64, .f32⟩
  | .hbm, ⟨8, _⟩ => ⟨S1x1x64, .f32⟩
  | .hbm, ⟨9, _⟩ => ⟨S16x576x64, .f32⟩
  | .hbm, ⟨10, _⟩ => ⟨S16x576x64, .f32⟩
  | .hbm, ⟨11, _⟩ => ⟨S9216x64, .f32⟩
  | .hbm, ⟨12, _⟩ => ⟨S9216x64, .f32⟩
  | .hbm, ⟨13, _⟩ => ⟨S_, .f32⟩
  | .hbm, ⟨14, _⟩ => ⟨S9216, .f32⟩
  | .hbm, ⟨15, _⟩ => ⟨S9216x1, .f32⟩
  | .hbm, ⟨16, _⟩ => ⟨S64x8192, .f32⟩
  | .hbm, ⟨17, _⟩ => ⟨S9216x8192, .f32⟩
  | .hbm, ⟨18, _⟩ => ⟨S_, .f32⟩
  | .hbm, ⟨19, _⟩ => ⟨S9216x8192, .f32⟩
  | .hbm, ⟨20, _⟩ => ⟨S9216x8192, .f32⟩
  | .hbm, ⟨21, _⟩ => ⟨S9216x8192, .f32⟩
  | .hbm, ⟨22, _⟩ => ⟨S9216x8192, .f32⟩
  | .hbm, ⟨23, _⟩ => ⟨S8192x64, .f32⟩
  | .hbm, ⟨24, _⟩ => ⟨S_, .f32⟩
  | .hbm, ⟨25, _⟩ => ⟨S8192, .f32⟩
  | .hbm, ⟨26, _⟩ => ⟨S1x8192, .f32⟩
  | .hbm, ⟨27, _⟩ => ⟨S9216x8192, .f32⟩
  | .hbm, ⟨28, _⟩ => ⟨S9216x8192, .f32⟩
  | .hbm, ⟨29, _⟩ => ⟨S9216x8192, .i32⟩
  | .hbm, ⟨30, _⟩ => ⟨S_, .f32⟩
  | .hbm, ⟨31, _⟩ => ⟨S_, .i32⟩
  | .hbm, ⟨32, _⟩ => ⟨S9216, .f32⟩
  | .hbm, ⟨33, _⟩ => ⟨S9216, .i32⟩
  | .hbm, ⟨34, _⟩ => ⟨S_, .i32⟩
  | .hbm, ⟨35, _⟩ => ⟨S9216, .i32⟩
  | .hbm, ⟨36, _⟩ => ⟨S9216, .i1⟩
  | .hbm, ⟨37, _⟩ => ⟨S_, .i32⟩
  | .hbm, ⟨38, _⟩ => ⟨S9216, .i32⟩
  | .hbm, ⟨39, _⟩ => ⟨S9216, .i32⟩
  | .hbm, ⟨40, _⟩ => ⟨S9216, .i32⟩
  | .hbm, ⟨41, _⟩ => ⟨S9216x1, .i32⟩
  | .hbm, ⟨42, _⟩ => ⟨S1, .i32⟩
  | .hbm, ⟨43, _⟩ => ⟨S_, .i32⟩
  | .hbm, ⟨44, _⟩ => ⟨S9216x1, .i32⟩
  | .hbm, ⟨45, _⟩ => ⟨S9216x1, .i1⟩
  | .hbm, ⟨46, _⟩ => ⟨S1x1, .i32⟩
  | .hbm, ⟨47, _⟩ => ⟨S9216x1, .i32⟩
  | .hbm, ⟨48, _⟩ => ⟨S9216x1, .i1⟩
  | .hbm, ⟨49, _⟩ => ⟨S9216x1, .i1⟩
  | .hbm, ⟨50, _⟩ => ⟨S_, .i1⟩
  | .hbm, ⟨51, _⟩ => ⟨S9216, .i1⟩
  | .hbm, ⟨52, _⟩ => ⟨S9216x64, .f32⟩
  | .hbm, ⟨53, _⟩ => ⟨S9216x64, .i1⟩
  | .hbm, ⟨54, _⟩ => ⟨S_, .f32⟩
  | .hbm, ⟨55, _⟩ => ⟨S9216x64, .f32⟩
  | .hbm, ⟨56, _⟩ => ⟨S9216x64, .f32⟩
  | .hbm, ⟨57, _⟩ => ⟨S9216x64, .f32⟩
  | .hbm, ⟨58, _⟩ => ⟨S9216x64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S9216x64, .f32⟩
  | .hbm, ⟨64, _⟩ => ⟨S9216x64, .f32⟩
  | .hbm, ⟨65, _⟩ => ⟨S16x576x64, .f32⟩
  | .hbm, ⟨66, _⟩ => ⟨S16x576x768, .f32⟩
  | .hbm, ⟨67, _⟩ => ⟨S1x1x768, .f32⟩
  | .hbm, ⟨68, _⟩ => ⟨S16x576x768, .f32⟩
  | .hbm, ⟨69, _⟩ => ⟨S16x576x768, .f32⟩
  | .hbm, ⟨70, _⟩ => ⟨S16x768x576, .f32⟩
  | .hbm, ⟨71, _⟩ => ⟨S16x576, .i32⟩
  | _, _ => ⟨S16x768x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v20 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩

abbrev nD : Nat := 1
abbrev τ : Topo := Topo.v7x

variable {F : FTy → Type} [FloatOps F]
-- ==== Proof.Base.lean ====
/-
  What every module of this proof shares: the printed program's body tables and variants, the configuration of its
  one SparseCore call with its facts, and the resource algebra of the whole run: the rounds of the launch semaphores,
  the rounds of the two pipelines, and the counters the transfers' invariants take their tokens from.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.Batch
public import Idealize.ShloMosaic.Lib.Tactic

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the kernels and the two pipelines. -/
abbrev ΛP : Labels := Pipeline.Sig Λ₀ (Fin 2) fun p => (pcfgs (F := F) p).Adm
/-- The program's one SparseCore call. -/
abbrev K : SparseCore.Cfg τ sig (ΛP (F := F)) 1 := sc (F := F)
/-- The body table under the SparseCore dispatch. -/
abbrev DD : Defs nD τ sig (Elt F) (ΛP (F := F)) := Pipeline.defs pcfgs defs₀
abbrev V0 : Variants := Variants.none
abbrev VV : Variants := V0.lift
abbrev v00 : VV.V := Sum.inl none

/-- Side facts of the launch: which semaphores are scoped where, and that no table is shared. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The launch semaphores' rounds. -/
abbrev UH : Type := URounds (GSem nD τ sig) ℕ
/-- The pipelines' rounds. -/
abbrev UP : Type := UR sig nD τ
/-- Launch rounds, pipeline rounds, transfer counters. -/
abbrev UU : Type := UH × UP × Counters
/-- The resources of the run. -/
abbrev MM (F : FTy → Type) : Type := MT nD τ sig (HIx 1) (Elt F) ℕ UU ℕ

end Cert.Proof

end
-- ==== Proof.Gather.lean ====
/-
  Several indirect gathers in flight on one transfer semaphore: every row of every gather is one transfer of a batch
  whose units are all alike, the batch's invariant collecting the rows as they land.
-/
module

public import proofs.«01_k».proof.Proof.Base

@[expose] public section

noncomputable section

namespace Cert.Proof

open Idealize.ShloMosaic Idealize.ShloMosaic.Tactic
open Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Transfers (batchBody bigSep_sep_in bigSep_sep_out)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Element `j` of an offset list, in the list's order. -/
def entryAt {o : ℕ} (hn : si.numel = o) (j : Fin o) : si.Idx := si.rowMajor.symm (finCongr hn.symm j)

theorem entryAt_bijective {o : ℕ} (hn : si.numel = o) : Function.Bijective (entryAt (si := si) hn) :=
  si.rowMajor.symm.bijective.comp (finCongr hn.symm).bijective

/-- What row `j` of a gather delivers: the row of the destination at the payload's, its entry of the list back, and its
    piece of the source back. -/
def rowD (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) (j : Fin (s.size hg.axis')) : sProp 𝕄 :=
  iprop(((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
        ∗ (offs.view.loc c ↦[{offs.view.emb (entryAt hn j)}]{qo} fo))
      ∗ (src.view.loc c ↦[src.view.set]{pieceOf q _ ho j} fs))

instance rowD_storable (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) (j : Fin (s.size hg.axis')) :
    Storable (upEmb : UEmb _ 𝕄) (rowD c src dst hg offs hn q qo fs fd fo ho hin j) := by
  unfold rowD; infer_instance

/-- All rows of a gather in: the destination written with the gather's payload, the source and the list back. -/
theorem rowD_join (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) :
    (bigSep Finset.univ (rowD c src dst hg offs hn q qo fs fd fo ho hin) : sProp 𝕄)
      ⊢ iprop((dst.view.loc c ↦[dst.view.set]{fullShare}
                  (dst.view.write (Elt F) fd (gatherPayload hg (src.view.read (Elt F) fs) (rows (offs.view.read (Elt F) fo) hn hin)) Finset.univ))
            ∗ (src.view.loc c ↦[src.view.set]{q} fs) ∗ (offs.view.loc c ↦[offs.view.set]{qo} fo)) := by
  have hj : (bigSep Finset.univ (fun j => (dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))) : sProp 𝕄)
      ⊢ (dst.view.loc c ↦[dst.view.set]{fullShare}
                  (dst.view.write (Elt F) fd (gatherPayload hg (src.view.read (Elt F) fs) (rows (offs.view.read (Elt F) fo) hn hin)) Finset.univ)) :=
    pointsTo_rows_write c dst.view hg.axis' fd
      (fun j i => src.view.read (Elt F) fs (hg.rowIdx (rows (offs.view.read (Elt F) fo) hn hin j) i)) _
      (fun j i => by unfold gatherPayload; rw [Shape.Gathers.idx_rowRect_emb])
  unfold rowD
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · iapply hj; iexact Hrows
  isplitl [Hsrc]; · iapply (Entails.of_eq (pointsTo_piecesOf (src.view.set) fs ho q).symm) $$ Hsrc
  iapply (Entails.of_eq (pointsTo_entries c offs.view (entryAt hn) (entryAt_bijective hn) qo fo).symm) $$ Hoffs

/-- A gather's wait, while the batch's rows are all issued: it takes `q` rows' credit. -/
theorem wp_waitGatherBatch [EC.LandsIn (upEmb : UEmb _ 𝕄)] {e' : EltTy} {κ : Kind} {sem : DmaSem sig}
    {src : Memref sig c.2.kind sp s₀ e'} {dst : Memref sig κ .vmem s e} {hsrc : src.view.WordExact} {hdst : dst.view.WordExact}
    {k : PUnit → Prog (TpuEff nD τ sig (Elt F) Λ c.2) α} (ι : Ix) {N : ℕ} (q : ℕ) (hJ : dst.view.dmaCredit = q * N)
    {n : ℕ} {D : Fin n → sProp 𝕄} {j u : ℕ} (hu : u + q * N ≤ N * j) {O : CellTallies nD τ sig Ix} {W : Waits sig Ix} :
    iprop(Transfers.Batch EC c (.dma sem) ι N D j u ∗ owes c O W ∗ MayWait c (.dma sem) ι O)
      ⊢ iprop((iprop(Transfers.Batch EC c (.dma sem) ι N D j (u + q * N) ∗ owes c O (insert (SemLoc.dma sem, ι) W)) -∗ wp frame (wpE defs 𝒱 c bd) Set.univ (k ⟨⟩) Q)
          -∗ wp frame (wpE defs 𝒱 c bd) Set.univ (waitIndirectGather sem src dst hsrc hdst >>= k) Q) := by
  rw [waitIndirectGather_bind]
  exact Transfers.wp_waitBatchMulO EC 𝒱 c bd ι q hJ hu

/-- One gather issued against an open batch: each row spends its own right of the batch's, and the gather's whole credit
    comes back as tokens on the cell. -/
theorem wp_gatherBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N M : ℕ) (hN : ∀ j, (dst.slice (s.rowRect hg.axis' j) (s.stride_rowRect hg.axis' j)).view.dmaCredit = N)
    (hM : ∑ j, (dst.slice (s.rowRect hg.axis' j) (s.stride_rowRect hg.axis' j)).view.dmaCredit = M)
    (ho : 0 < s.size hg.axis') (hin : ∀ x, (offs.view.read (Elt F) fo x).toNat < s₀.size hg.axis)
    {m : ℕ} {D : Fin m → sProp 𝕄} {γ : Fin m → ℕ} {γ₀ : ℕ} {κ : Name} (ix : Fin (s.size hg.axis') → Fin m)
    (hD : ∀ j, (rowD c src dst hg offs hn q qo fs fd fo ho hin j : sProp 𝕄) ⊢ D (ix j)) :
    iprop(inv κ (batchBody EC (c, SemLoc.dma sem) N D γ γ₀) ∗ (src.view.loc c ↦[src.view.set]{q} fs) ∗ (dst.view.loc c ↦[dst.view.set]{fullShare} fd)
        ∗ (offs.view.loc c ↦[offs.view.set]{qo} fo) ∗ bigSep Finset.univ (fun j => count EC (γ (ix j)) 0))
      ⊢ iprop((cred (tallyAt (c, SemLoc.dma sem) ι M) -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  iintro ⟨#Hinv, Hs, Hd, Ho, Hγ⟩ Hk
  ihave Hd' := (Entails.of_eq (pointsTo_rows c dst.view hg.axis' fullShare fd)) $$ Hd
  ihave Ho' := (Entails.of_eq (pointsTo_entries c offs.view (entryAt hn) (entryAt_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι M hA hrd hM) $$ [Hd' Ho' Hs' Hγ]
  · have hrow : ∀ j, iprop(inv κ (batchBody EC (c, SemLoc.dma sem) N D γ γ₀)
          ∗ ((((dst.view.loc c ↦[(dst.view.slice (s.rowRect hg.axis' j)).set]{fullShare} fd) ∗ (offs.view.loc c ↦[{offs.view.emb (entryAt hn j)}]{qo} fo))
          ∗ (src.view.loc c ↦[src.view.set]{pieceOf q _ ho j} fs)) ∗ count EC (γ (ix j)) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd (w j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := Transfers.batch_creditUpdate EC (g := (c, SemLoc.dma sem)) (N := N) (D := D) (γ := γ) (γ₀ := γ₀) (ι := κ) (ix j) (hD j)
        have hnj : (rd j).dst.view.amount (.dma sem) = N := hN j
        rw [hnj]
        iapply hcu
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (Transfers.bigSep_mono_pers Finset.univ _ _ _ fun j _ => hrow j)
    isplitr; · iexact Hinv
    iexact H3
  · iintro Hcred
    iapply Hk
    iexact Hcred

end Cert.Proof

end
-- ==== Proof.Tile.lean ====
/-
  One tile's task of the SparseCore call: it fetches its 288 row numbers, gathers those rows of the padded table in three
  streams on one semaphore, and writes them out to its block of the result. Stated once, at a symbolic tile, with the
  contents the block ends at.
-/
module

public import proofs.«01_k».proof.Proof.Gather
public import Idealize.ShloMosaic.Lib.Ring

@[expose] public section

noncomputable section

namespace Cert.Proof

open Cert.KernelIdeal Cert.KernelIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "tV" => (Memref.whole Cert.KernelIdeal.main_v1_2_scv : Memref Cert.KernelIdeal.sig Kind.scVector Space.hbm Cert.KernelIdeal.S8192x128 EltTy.f32)
local notation "iV" => (Memref.whole Cert.KernelIdeal.main_v3_scv : Memref Cert.KernelIdeal.sig Kind.scVector Space.hbm Cert.KernelIdeal.S32x3x96 EltTy.i32)
local notation "oV" => (Memref.whole Cert.KernelIdeal.main_v4_scv : Memref Cert.KernelIdeal.sig Kind.scVector Space.hbm Cert.KernelIdeal.S32x3x96x128 EltTy.f32)
local notation "sV" => (Memref.whole Cert.KernelIdeal.cc1_scratch0 : Memref Cert.KernelIdeal.sig Kind.scVector Space.vmem Cert.KernelIdeal.S3x96 EltTy.i32)
local notation "rV" => (Memref.whole Cert.KernelIdeal.cc1_scratch1 : Memref Cert.KernelIdeal.sig Kind.scVector Space.vmem Cert.KernelIdeal.S3x96x128 EltTy.f32)

abbrev tLoc (d : Dev nD) : Loc nD τ sig := (SparseCore.T d).loc main_v1_2
abbrev iLoc (d : Dev nD) : Loc nD τ sig := (SparseCore.T d).loc main_v3
abbrev oLoc (d : Dev nD) : Loc nD τ sig := (SparseCore.T d).loc main_v4

/-- Task `w`'s block of the row numbers, and of the result. -/
def iSet (w : Fin 32) : Finset S32x3x96.Idx := Finset.univ.filter fun x => (x 0).val = w.val
def oSet (w : Fin 32) : Finset S32x3x96x128.Idx := Finset.univ.filter fun x => (x 0).val = w.val
/-- Row `t` of the row numbers' scratch, and block `t` of the rows' scratch. -/
def sSet (t : Fin 3) : Finset S3x96.Idx := Finset.univ.filter fun x => (x 0).val = t.val
def rSet (t : Fin 3) : Finset S3x96x128.Idx := Finset.univ.filter fun x => (x 0).val = t.val

theorem mem_iSet {w : Fin 32} {x : S32x3x96.Idx} : x ∈ iSet w ↔ (x 0).val = w.val := by simp [iSet]
theorem mem_oSet {w : Fin 32} {x : S32x3x96x128.Idx} : x ∈ oSet w ↔ (x 0).val = w.val := by simp [oSet]
theorem mem_sSet {t : Fin 3} {x : S3x96.Idx} : x ∈ sSet t ↔ (x 0).val = t.val := by simp [sSet]
theorem mem_rSet {t : Fin 3} {x : S3x96x128.Idx} : x ∈ rSet t ↔ (x 0).val = t.val := by simp [rSet]

/-- An element of the table by its row number (taken modulo the table's height) and lane. -/
def tIx (n : ℕ) (l : Fin 128) : S8192x128.Idx := fun | 0 => ⟨n % 8192, Nat.mod_lt _ (by decide)⟩ | 1 => l
def iIx (x : S32x3x96x128.Idx) : S32x3x96.Idx := fun | 0 => x 0 | 1 => x 1 | 2 => x 2
def sIx (x : S3x96x128.Idx) : S3x96.Idx := fun | 0 => x 0 | 1 => x 1

/-- The whole result: row by row the table's rows that the row numbers name. -/
def gath (E : S8192x128.Idx → Elt F .f32) (I : S32x3x96.Idx → Elt F .i32) : S32x3x96x128.Idx → Elt F .f32 :=
  fun x => E (tIx (I (iIx x)).toNat (x 3))
/-- One task's rows. -/
def gathS (E : S8192x128.Idx → Elt F .f32) (I : S3x96.Idx → Elt F .i32) : S3x96x128.Idx → Elt F .f32 :=
  fun x => E (tIx (I (sIx x)).toNat (x 2))

section Tile

variable (d : Dev nD) (L : grid1.Coords)

abbrev cV (L : grid1.Coords) : Fin τ.nSC := (L 0).castLE hcore1
abbrev jV (L : grid1.Coords) : Fin τ.nSub := (L 1).castLE hsub1
/-- The task's number: its subcore's, twice, and its core's. -/
def wid (L : grid1.Coords) : Fin 32 := ⟨2 * (L 1).val + (L 0).val, by
  have h0 : (L 0).val < 2 := (L 0).isLt
  have h1 : (L 1).val < 16 := (L 1).isLt
  omega⟩

abbrev iRowK (L : grid1.Coords) : Memref sig .scVector .hbm S3x96 .i32 :=
  ((iV).slice (Rect.unit (s := S32x3x96) (k1_off1 L) S1x3x96.size (k1_off1_inb L)) (fun _ => rfl)).squeeze S3x96 squeezes_S1x3x96_S3x96
abbrev oRowK (L : grid1.Coords) : Memref sig .scVector .hbm S3x96x128 .f32 :=
  ((oV).slice (Rect.unit (s := S32x3x96x128) (k1_off2 L) S1x3x96x128.size (k1_off2_inb L)) (fun _ => rfl)).squeeze S3x96x128 squeezes_S1x3x96x128_S3x96x128
abbrev tAllK : Memref sig .scVector .hbm S8192x128 .f32 :=
  (tV).slice (Rect.unit (s := S8192x128) ![0, 0] S8192x128.size inb_S8192x128_S8192x128_0_0) (fun _ => rfl)

theorem inb_s (t : Fin 3) : ∀ a, (![t.val, 0] : Fin 2 → ℕ) a + S1x96.size a ≤ S3x96.size a := by
  revert t; decide
theorem inb_r (t : Fin 3) : ∀ a, (![t.val, 0, 0] : Fin 3 → ℕ) a + S1x96x128.size a ≤ S3x96x128.size a := by
  revert t; decide
/-- Row `t` of the row numbers' scratch and block `t` of the rows' scratch, as the task addresses them. -/
abbrev sRowK (t : Fin 3) : Memref sig .scVector .vmem S96 .i32 :=
  ((sV).slice (Rect.unit (s := S3x96) ![t.val, 0] S1x96.size (inb_s t)) (fun _ => rfl)).squeeze S96 squeezes_S1x96_S96
abbrev rRowK (t : Fin 3) : Memref sig .scVector .vmem S96x128 .f32 :=
  ((rV).slice (Rect.unit (s := S3x96x128) ![t.val, 0, 0] S1x96x128.size (inb_r t)) (fun _ => rfl)).squeeze S96x128 squeezes_S1x96x128_S96x128

theorem set_iRowK : (iRowK L).view.set = iSet (wid L) := by
  show (((iV).view.slice (Rect.unit (s := S32x3x96) (k1_off1 L) S1x3x96.size (k1_off1_inb L))).reshape S3x96 squeezes_S1x3x96_S3x96.numel_eq).set = _
  rw [View.set_reshape]
  refine (View.set_slice_whole _ _).trans ?_
  ext x
  refine Rect.mem_set_unit.trans ?_
  have e0 : k1_off1 L 0 = 2 * (L 1).val + (L 0).val := congrFun (k1_off1_eq L) 0
  have e1 : k1_off1 L 1 = 0 := congrFun (k1_off1_eq L) 1
  have e2 : k1_off1 L 2 = 0 := congrFun (k1_off1_eq L) 2
  refine Iff.trans ?_ mem_iSet.symm
  have hw : (wid L).val = 2 * (L 1).val + (L 0).val := rfl
  constructor
  · intro h
    have h0 : k1_off1 L 0 ≤ (x 0).val ∧ (x 0).val < k1_off1 L 0 + 1 := h 0
    omega
  · intro h a
    match a with
    | 0 => show k1_off1 L 0 ≤ (x 0).val ∧ (x 0).val < k1_off1 L 0 + 1; omega
    | 1 => show k1_off1 L 1 ≤ (x 1).val ∧ (x 1).val < k1_off1 L 1 + 3; have h1 : (x 1).val < 3 := (x 1).isLt; omega
    | 2 => show k1_off1 L 2 ≤ (x 2).val ∧ (x 2).val < k1_off1 L 2 + 96; have h2 : (x 2).val < 96 := (x 2).isLt; omega
theorem set_oRowK : (oRowK L).view.set = oSet (wid L) := by
  show (((oV).view.slice (Rect.unit (s := S32x3x96x128) (k1_off2 L) S1x3x96x128.size (k1_off2_inb L))).reshape S3x96x128 squeezes_S1x3x96x128_S3x96x128.numel_eq).set = _
  rw [View.set_reshape]
  refine (View.set_slice_whole _ _).trans ?_
  ext x
  refine Rect.mem_set_unit.trans ?_
  have e0 : k1_off2 L 0 = 2 * (L 1).val + (L 0).val := congrFun (k1_off2_eq L) 0
  have e1 : k1_off2 L 1 = 0 := congrFun (k1_off2_eq L) 1
  have e2 : k1_off2 L 2 = 0 := congrFun (k1_off2_eq L) 2
  have e3 : k1_off2 L 3 = 0 := congrFun (k1_off2_eq L) 3
  refine Iff.trans ?_ mem_oSet.symm
  have hw : (wid L).val = 2 * (L 1).val + (L 0).val := rfl
  constructor
  · intro h
    have h0 : k1_off2 L 0 ≤ (x 0).val ∧ (x 0).val < k1_off2 L 0 + 1 := h 0
    omega
  · intro h a
    match a with
    | 0 => show k1_off2 L 0 ≤ (x 0).val ∧ (x 0).val < k1_off2 L 0 + 1; omega
    | 1 => show k1_off2 L 1 ≤ (x 1).val ∧ (x 1).val < k1_off2 L 1 + 3; have h1 : (x 1).val < 3 := (x 1).isLt; omega
    | 2 => show k1_off2 L 2 ≤ (x 2).val ∧ (x 2).val < k1_off2 L 2 + 96; have h2 : (x 2).val < 96 := (x 2).isLt; omega
    | 3 => show k1_off2 L 3 ≤ (x 3).val ∧ (x 3).val < k1_off2 L 3 + 128; have h3 : (x 3).val < 128 := (x 3).isLt; omega
theorem set_sRowK (t : Fin 3) : (sRowK t).view.set = sSet t := by
  show (((sV).view.slice (Rect.unit (s := S3x96) ![t.val, 0] S1x96.size (inb_s t))).reshape S96 squeezes_S1x96_S96.numel_eq).set = _
  rw [View.set_reshape]
  refine (View.set_slice_whole _ _).trans ?_
  ext x
  refine Rect.mem_set_unit.trans ?_
  refine Iff.trans ?_ mem_sSet.symm
  constructor
  · intro h
    have h0 : t.val ≤ (x 0).val ∧ (x 0).val < t.val + 1 := h 0
    omega
  · intro h a
    match a with
    | 0 => show t.val ≤ (x 0).val ∧ (x 0).val < t.val + 1; omega
    | 1 => show 0 ≤ (x 1).val ∧ (x 1).val < 0 + 96; have h1 : (x 1).val < 96 := (x 1).isLt; omega
theorem set_rRowK (t : Fin 3) : (rRowK t).view.set = rSet t := by
  show (((rV).view.slice (Rect.unit (s := S3x96x128) ![t.val, 0, 0] S1x96x128.size (inb_r t))).reshape S96x128 squeezes_S1x96x128_S96x128.numel_eq).set = _
  rw [View.set_reshape]
  refine (View.set_slice_whole _ _).trans ?_
  ext x
  refine Rect.mem_set_unit.trans ?_
  refine Iff.trans ?_ mem_rSet.symm
  constructor
  · intro h
    have h0 : t.val ≤ (x 0).val ∧ (x 0).val < t.val + 1 := h 0
    omega
  · intro h a
    match a with
    | 0 => show t.val ≤ (x 0).val ∧ (x 0).val < t.val + 1; omega
    | 1 => show 0 ≤ (x 1).val ∧ (x 1).val < 0 + 96; have h1 : (x 1).val < 96 := (x 1).isLt; omega
    | 2 => show 0 ≤ (x 2).val ∧ (x 2).val < 0 + 128; have h2 : (x 2).val < 128 := (x 2).isLt; omega

/-! ### Where the task's windows put their elements -/

def iAt (w : Fin 32) (x : S3x96.Idx) : S32x3x96.Idx := fun | 0 => w | 1 => x 0 | 2 => x 1
def oAt (w : Fin 32) (x : S3x96x128.Idx) : S32x3x96x128.Idx := fun | 0 => w | 1 => x 0 | 2 => x 1 | 3 => x 2
def sAt (t : Fin 3) (x : S96.Idx) : S3x96.Idx := fun | 0 => t | 1 => x 0
def rAt (t : Fin 3) (x : S96x128.Idx) : S3x96x128.Idx := fun | 0 => t | 1 => x 0 | 2 => x 1

theorem emb_iRowK (x : S3x96.Idx) : (iRowK L).view.emb x = iAt (wid L) x := by
  show (Rect.unit (s := S32x3x96) (k1_off1 L) S1x3x96.size (k1_off1_inb L)).emb (Shape.reshapeEquiv squeezes_S1x3x96_S3x96.numel_eq x) = _
  rw [Shape.reshapeEquiv_cons_one]
  funext a
  apply Fin.ext
  have e0 : k1_off1 L 0 = 2 * (L 1).val + (L 0).val := congrFun (k1_off1_eq L) 0
  have e1 : k1_off1 L 1 = 0 := congrFun (k1_off1_eq L) 1
  have e2 : k1_off1 L 2 = 0 := congrFun (k1_off1_eq L) 2
  match a with
  | 0 => show k1_off1 L 0 + 1 * 0 = 2 * (L 1).val + (L 0).val; omega
  | 1 => show k1_off1 L 1 + 1 * (x 0).val = (x 0).val; omega
  | 2 => show k1_off1 L 2 + 1 * (x 1).val = (x 1).val; omega
theorem emb_oRowK (x : S3x96x128.Idx) : (oRowK L).view.emb x = oAt (wid L) x := by
  show (Rect.unit (s := S32x3x96x128) (k1_off2 L) S1x3x96x128.size (k1_off2_inb L)).emb (Shape.reshapeEquiv squeezes_S1x3x96x128_S3x96x128.numel_eq x) = _
  rw [Shape.reshapeEquiv_cons_one]
  funext a
  apply Fin.ext
  have e0 : k1_off2 L 0 = 2 * (L 1).val + (L 0).val := congrFun (k1_off2_eq L) 0
  have e1 : k1_off2 L 1 = 0 := congrFun (k1_off2_eq L) 1
  have e2 : k1_off2 L 2 = 0 := congrFun (k1_off2_eq L) 2
  have e3 : k1_off2 L 3 = 0 := congrFun (k1_off2_eq L) 3
  match a with
  | 0 => show k1_off2 L 0 + 1 * 0 = 2 * (L 1).val + (L 0).val; omega
  | 1 => show k1_off2 L 1 + 1 * (x 0).val = (x 0).val; omega
  | 2 => show k1_off2 L 2 + 1 * (x 1).val = (x 1).val; omega
  | 3 => show k1_off2 L 3 + 1 * (x 2).val = (x 2).val; omega
theorem emb_sRowK (t : Fin 3) (x : S96.Idx) : (sRowK t).view.emb x = sAt t x := by
  show (Rect.unit (s := S3x96) ![t.val, 0] S1x96.size (inb_s t)).emb (Shape.reshapeEquiv squeezes_S1x96_S96.numel_eq x) = _
  rw [Shape.reshapeEquiv_cons_one]
  funext a
  apply Fin.ext
  match a with
  | 0 => show t.val + 1 * 0 = t.val; omega
  | 1 => show 0 + 1 * (x 0).val = (x 0).val; omega
theorem emb_rRowK (t : Fin 3) (x : S96x128.Idx) : (rRowK t).view.emb x = rAt t x := by
  show (Rect.unit (s := S3x96x128) ![t.val, 0, 0] S1x96x128.size (inb_r t)).emb (Shape.reshapeEquiv squeezes_S1x96x128_S96x128.numel_eq x) = _
  rw [Shape.reshapeEquiv_cons_one]
  funext a
  apply Fin.ext
  match a with
  | 0 => show t.val + 1 * 0 = t.val; omega
  | 1 => show 0 + 1 * (x 0).val = (x 0).val; omega
  | 2 => show 0 + 1 * (x 1).val = (x 1).val; omega
theorem emb_tAllK (x : S8192x128.Idx) : (tAllK).view.emb x = x := by
  show (Rect.unit (s := S8192x128) ![0, 0] S8192x128.size inb_S8192x128_S8192x128_0_0).emb x = x
  funext a
  apply Fin.ext
  match a with
  | 0 => show 0 + 1 * (x 0).val = (x 0).val; omega
  | 1 => show 0 + 1 * (x 1).val = (x 1).val; omega

end Tile

end Cert.Proof

end
-- ==== Proof.TileBody.lean ====
/-
  The task's program run: fetch, three gathers in flight at once, three waits, write-out.
-/
module

public import proofs.«01_k».proof.Proof.Tile

@[expose] public section

noncomputable section

namespace Cert.Proof

open Cert.KernelIdeal Cert.KernelIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "tV" => (Memref.whole Cert.KernelIdeal.main_v1_2_scv : Memref Cert.KernelIdeal.sig Kind.scVector Space.hbm Cert.KernelIdeal.S8192x128 EltTy.f32)
local notation "iV" => (Memref.whole Cert.KernelIdeal.main_v3_scv : Memref Cert.KernelIdeal.sig Kind.scVector Space.hbm Cert.KernelIdeal.S32x3x96 EltTy.i32)
local notation "oV" => (Memref.whole Cert.KernelIdeal.main_v4_scv : Memref Cert.KernelIdeal.sig Kind.scVector Space.hbm Cert.KernelIdeal.S32x3x96x128 EltTy.f32)
local notation "sV" => (Memref.whole Cert.KernelIdeal.cc1_scratch0 : Memref Cert.KernelIdeal.sig Kind.scVector Space.vmem Cert.KernelIdeal.S3x96 EltTy.i32)
local notation "rV" => (Memref.whole Cert.KernelIdeal.cc1_scratch1 : Memref Cert.KernelIdeal.sig Kind.scVector Space.vmem Cert.KernelIdeal.S3x96x128 EltTy.f32)

/-- Task `w`'s share of the table. -/
abbrev tq (w : Fin 32) : PosShare TreeShare := pieceOf fullShare 32 (by decide) w

section Tile

variable (d : Dev nD) (L : grid1.Coords)

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
theorem pts_iRowK (f : Buf (Elt F) (iLoc d)) :
    ((iRowK L).view.loc (V d (cV L) (jV L)) ↦[(iRowK L).view.set]{fullShare} f : sProp 𝕄) = iLoc d ↦[iSet (wid L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oSet (wid L)]{fullShare} f := by
  rw [set_oRowK]
omit [FloatOps F] in
theorem pts_tV (q : PosShare TreeShare) (f : Buf (Elt F) (tLoc d)) :
    ((tAllK).view.loc (V d (cV L) (jV L)) ↦[(tAllK).view.set]{q} f : sProp 𝕄) = tLoc d ↦{q} f := by
  have hs : (tAllK).view.set = Finset.univ := by
    refine (View.set_slice_whole _ _).trans ?_
    ext x
    refine Iff.trans Rect.mem_set_unit ?_
    refine ⟨fun _ => Finset.mem_univ _, fun _ a => ?_⟩
    match a with
    | 0 => show 0 ≤ (x 0).val ∧ (x 0).val < 0 + 8192; have h0 : (x 0).val < 8192 := (x 0).isLt; omega
    | 1 => show 0 ≤ (x 1).val ∧ (x 1).val < 0 + 128; have h0 : (x 1).val < 128 := (x 1).isLt; omega
  rw [hs]
omit [FloatOps F] in
/-- The row numbers' scratch whole is its three rows. -/
theorem pts_sV (f : Buf (Elt F) ((V d (cV L) (jV L)).loc cc1_scratch0)) :
    ((V d (cV L) (jV L)).loc cc1_scratch0 ↦{fullShare} f : sProp 𝕄)
      = bigSep Finset.univ fun t : Fin 3 => (sRowK t).view.loc (V d (cV L) (jV L)) ↦[(sRowK t).view.set]{fullShare} f := by
  have hc : (Finset.univ : Finset (Fin 3)).biUnion sSet = Finset.univ := by
    ext x
    simp only [Finset.mem_biUnion, Finset.mem_univ, true_and, iff_true, mem_sSet]
    exact ⟨x 0, rfl⟩
  have hd : ∀ t ∈ (Finset.univ : Finset (Fin 3)), ∀ t' ∈ (Finset.univ : Finset (Fin 3)), t ≠ t' → Disjoint (sSet t) (sSet t') := by
    intro t _ t' _ h
    rw [Finset.disjoint_left]
    intro x hx hx'
    exact h (Fin.ext ((mem_sSet.mp hx).symm.trans (mem_sSet.mp hx')))
  rw [show (fun t : Fin 3 => ((sRowK t).view.loc (V d (cV L) (jV L)) ↦[(sRowK t).view.set]{fullShare} f : sProp 𝕄))
      = fun t => ((V d (cV L) (jV L)).loc cc1_scratch0 ↦[sSet t]{fullShare} f) from funext fun t => by rw [set_sRowK],
    ← pointsTo_biUnion Finset.univ (ℓ := (V d (cV L) (jV L)).loc cc1_scratch0) sSet hd, hc]
  try rfl
omit [FloatOps F] in
/-- The rows' scratch whole is its three blocks. -/
theorem pts_rV (f : Buf (Elt F) ((V d (cV L) (jV L)).loc cc1_scratch1)) :
    ((V d (cV L) (jV L)).loc cc1_scratch1 ↦{fullShare} f : sProp 𝕄)
      = bigSep Finset.univ fun t : Fin 3 => (rRowK t).view.loc (V d (cV L) (jV L)) ↦[(rRowK t).view.set]{fullShare} f := by
  have hc : (Finset.univ : Finset (Fin 3)).biUnion rSet = Finset.univ := by
    ext x
    simp only [Finset.mem_biUnion, Finset.mem_univ, true_and, iff_true, mem_rSet]
    exact ⟨x 0, rfl⟩
  have hd : ∀ t ∈ (Finset.univ : Finset (Fin 3)), ∀ t' ∈ (Finset.univ : Finset (Fin 3)), t ≠ t' → Disjoint (rSet t) (rSet t') := by
    intro t _ t' _ h
    rw [Finset.disjoint_left]
    intro x hx hx'
    exact h (Fin.ext ((mem_rSet.mp hx).symm.trans (mem_rSet.mp hx')))
  rw [show (fun t : Fin 3 => ((rRowK t).view.loc (V d (cV L) (jV L)) ↦[(rRowK t).view.set]{fullShare} f : sProp 𝕄))
      = fun t => ((V d (cV L) (jV L)).loc cc1_scratch1 ↦[rSet t]{fullShare} f) from funext fun t => by rw [set_rRowK],
    ← pointsTo_biUnion Finset.univ (ℓ := (V d (cV L) (jV L)).loc cc1_scratch1) rSet hd, hc]
  try rfl

variable (E : Buf (Elt F) (tLoc d)) (I : Buf (Elt F) (iLoc d)) (hI : ∀ x, (I x).toNat < 8192)

/-- What the fetch leaves in the row numbers' scratch. -/
def sVal : Buf (Elt F) ((V d (cV L) (jV L)).loc cc1_scratch0) := fun x => I (iAt (wid L) x)

omit [FloatOps F] in
include hI in
theorem sVal_lt (t : Fin 3) : ∀ x, ((sRowK t).view.read (Elt F) (sVal d L I) x).toNat < S8192x128.size gathers_S8192x128_S96x128.axis :=
  fun _ => hI _

theorem pos96 : 0 < S96x128.size gathers_S8192x128_S96x128.axis' := by decide

/-- Row `j` of gather `t`, landed. -/
def dRow (fr : Buf (Elt F) ((V d (cV L) (jV L)).loc cc1_scratch1)) (t : Fin 3) (j : Fin 96) : sProp 𝕄 :=
  rowD (V d (cV L) (jV L)) tAllK (rRowK t) gathers_S8192x128_S96x128 (sRowK t) rfl (pieceOf (tq (wid L)) 3 (by decide) t) fullShare E fr (sVal d L I)
    pos96 (sVal_lt d L I hI t) j

/-- The deliveries of the three gathers' rows, in one list. -/
def dAll (fr : Buf (Elt F) ((V d (cV L) (jV L)).loc cc1_scratch1)) (p : Fin (3 * 96)) : sProp 𝕄 :=
  dRow d L E I hI fr (finProdFinEquiv.symm p).1 (finProdFinEquiv.symm p).2

omit [FloatOps F] in
instance dAll_storable (fr : Buf (Elt F) ((V d (cV L) (jV L)).loc cc1_scratch1)) (p : Fin (3 * 96)) :
    Storable (upEmb : UEmb _ 𝕄) (dAll d L E I hI fr p) := by
  unfold dAll dRow; exact rowD_storable ..

omit [FloatOps F] in
/-- A family over the three gathers' rows, gather by gather. -/
theorem bigSep_rows (Φ : Fin (3 * 96) → sProp 𝕄) :
    bigSep Finset.univ Φ = iprop((bigSep Finset.univ fun j : Fin 96 => Φ (finProdFinEquiv (0, j)))
      ∗ (bigSep Finset.univ fun j : Fin 96 => Φ (finProdFinEquiv (1, j))) ∗ (bigSep Finset.univ fun j : Fin 96 => Φ (finProdFinEquiv (2, j)))) := by
  rw [bigSep_univ_equiv (finProdFinEquiv (m := 3) (n := 96)), bigSep_univ_prod, Ring.bigSep_fin3]

/-- Every row of a gather is worth this much credit. -/
theorem rowCredit (t : Fin 3) (j : Fin 96) :
    (((rRowK t).slice (S96x128.rowRect gathers_S8192x128_S96x128.axis' j) (S96x128.stride_rowRect gathers_S8192x128_S96x128.axis' j)).view.dmaCredit) = 4096 := by
  have h0 : (S96x128.rowRect gathers_S8192x128_S96x128.axis' j).shape.size (0 : Fin 2) = 1 := rfl
  have h1 : (S96x128.rowRect gathers_S8192x128_S96x128.axis' j).shape.size (1 : Fin 2) = 128 := rfl
  have hn : (S96x128.rowRect gathers_S8192x128_S96x128.axis' j).shape.numel = 128 := by
    refine (Fin.prod_univ_two (M := ℕ) _).trans ?_
    rw [h0, h1]; exact Nat.one_mul _
  refine Eq.trans (b := (S96x128.rowRect gathers_S8192x128_S96x128.axis' j).shape.numel * 32) rfl ?_
  rw [hn]

theorem allCredit (t : Fin 3) : (rRowK t).view.dmaCredit = 96 * 4096 := by
  show S96x128.numel * 32 = _
  decide

theorem rowsCredit (t : Fin 3) :
    ∑ j, (((rRowK t).slice (S96x128.rowRect gathers_S8192x128_S96x128.axis' j) (S96x128.stride_rowRect gathers_S8192x128_S96x128.axis' j)).view.dmaCredit)
      = 96 * 4096 := by
  refine (Finset.sum_congr rfl fun j _ => rowCredit t j).trans ?_
  show ∑ _j : Fin 96, 4096 = 96 * 4096
  rw [Finset.sum_const, Finset.card_univ]; rfl

/-- Gather `t`'s payload, over the block it lands in, is the block of the task's rows. -/
theorem gathered (fr : Buf (Elt F) ((V d (cV L) (jV L)).loc cc1_scratch1)) (t : Fin 3) :
    ∀ i ∈ (rRowK t).view.set,
      ((rRowK t).view.write (Elt F) fr (SparseCore.gatherPayload gathers_S8192x128_S96x128 ((tAllK).view.read (Elt F) E)
        (SparseCore.rows ((sRowK t).view.read (Elt F) (sVal d L I)) rfl (sVal_lt d L I hI t))) Finset.univ) i = gathS E (sVal d L I) i := by
  intro i hi
  obtain ⟨x, -, rfl⟩ := Finset.mem_map.mp hi
  rw [View.write_emb_of_mem _ _ (Finset.mem_univ x), emb_rRowK]
  refine (congrArg E (emb_tAllK _)).trans ?_
  have hp : ∀ k : Fin 96, S96.rowMajor.symm (k.cast (rfl : S96.numel = S96x128.size gathers_S8192x128_S96x128.axis').symm) = ((fun | 0 => k) : S96.Idx) := fun k => by
    rw [Equiv.symm_apply_eq]
    apply Fin.ext
    rw [Shape.rowMajor_val_one]; rfl
  refine congrArg E (funext fun b => Fin.ext ?_)
  match b with
  | 0 =>
    refine (congrArg Fin.val (Shape.Gathers.idx_axis gathers_S8192x128_S96x128 _ x)).trans ?_
    have hv : sIx (rAt t x) = (sRowK t).view.emb (S96.rowMajor.symm ((x 0).cast (rfl : S96.numel = S96x128.size gathers_S8192x128_S96x128.axis').symm)) := by
      rw [emb_sRowK]
      have := hp (x 0)
      funext a
      match a with
      | 0 => rfl
      | 1 => exact (congrFun this 0).symm
    show (sVal d L I ((sRowK t).view.emb _)).toNat = (sVal d L I (sIx (rAt t x))).toNat % 8192
    rw [hv]
    exact (Nat.mod_eq_of_lt (hI _)).symm
  | 1 => exact Shape.Gathers.idx_of_ne gathers_S8192x128_S96x128 _ x 1 (by decide)

/-- Gather `t` landed whole: its block at the task's rows, its row numbers back, its piece of the table back. -/
theorem gatherJoin (fr : Buf (Elt F) ((V d (cV L) (jV L)).loc cc1_scratch1)) (t : Fin 3) :
    (bigSep Finset.univ (fun j : Fin 96 => dAll d L E I hI fr (finProdFinEquiv (t, j))) : sProp 𝕄)
      ⊢ iprop(((rRowK t).view.loc (V d (cV L) (jV L)) ↦[(rRowK t).view.set]{fullShare} gathS E (sVal d L I))
          ∗ ((tAllK).view.loc (V d (cV L) (jV L)) ↦[(tAllK).view.set]{pieceOf (tq (wid L)) 3 (by decide) t} E)
          ∗ ((sRowK t).view.loc (V d (cV L) (jV L)) ↦[(sRowK t).view.set]{fullShare} sVal d L I)) := by
  rw [show (fun j : Fin 96 => (dAll d L E I hI fr (finProdFinEquiv (t, j)) : sProp 𝕄)) = fun j => dRow d L E I hI fr t j from
    funext fun j => by unfold dAll; rw [Equiv.symm_apply_apply]]
  unfold dRow
  refine (rowD_join (V d (cV L) (jV L)) tAllK (rRowK t) gathers_S8192x128_S96x128 (sRowK t) rfl (pieceOf (tq (wid L)) 3 (by decide) t) fullShare E fr
    (sVal d L I) pos96 (sVal_lt d L I hI t)).trans ?_
  rw [pointsTo_congr (gathered d L E I hI fr t)]

include hI in
set_option maxHeartbeats 4000000 in
theorem tile_body (hF : (K (F := F)).Facts) (f0 : Buf (Elt F) (oLoc d)) (O : CellTallies nD τ sig (HIx 1)) (W : Waits sig (HIx 1)) (hO : ∀ g, O g none = 0) :
    iprop((levAts (K (F := F)).L (K (F := F)).lev : sProp 𝕄) ∗ emp
        ∗ ((iLoc d ↦[iSet (wid L)]{fullShare} I) ∗ (tLoc d ↦{tq (wid L)} E) ∗ (oLoc d ↦[oSet (wid L)]{fullShare} f0))
        ∗ scopedBufs (V d (cV L) (jV L)) ∗ scopedSems0 (V d (cV L) (jV L)) ∗ owes (V d (cV L) (jV L)) O W)
      ⊢ wp frame (wpE (defs₀ (F := F)) V0 (V d (cV L) (jV L)) none) Set.univ
          (cc1_gather_k L tV (Memref.isWhole_whole _) iV (Memref.isWhole_whole _) oV (Memref.isWhole_whole _)
            sV (Memref.isWhole_whole _) rV (Memref.isWhole_whole _) cc1_scratch2 cc1_scoped0 cc1_scoped1)
          fun _ => iprop(((iLoc d ↦[iSet (wid L)]{fullShare} I) ∗ (tLoc d ↦{tq (wid L)} E) ∗ (oLoc d ↦[oSet (wid L)]{fullShare} (gath E I)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_k_eq_skeleton]; unfold cc1_gather_k_skel
  simp only [k1_part1_eq_skeleton, k1_part2_eq_skeleton]; unfold k1_part1_skel k1_part2_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hs' := (show ((V d (cV L) (jV L)).loc cc1_scratch0 ↦{fullShare} fs : sProp 𝕄) ⊢ ((sV).view.loc (V d (cV L) (jV L)) ↦{fullShare} fs) from .rfl) $$ Hs
  sl_exec
  simp only [bind_assoc, pure_bind]
  ihave Hs2 := (Entails.of_eq (pointsTo_congr (g := sVal d L I) (by
    intro i _
    refine (congrFun (View.write_whole_univ _ _ _) i).trans ?_
    show I _ = I _
    exact congrArg I (emb_iRowK L i)))) $$ Hs'
  ihave Hs3 := (Entails.of_eq ((pts_sV (F := F) d L (sVal d L I)).trans (Ring.bigSep_fin3 _))) $$ Hs2
  icases Hs3 with ⟨Hs0, Hs1, Hs2⟩
  ihave Hr3 := (Entails.of_eq ((pts_rV (F := F) d L fr).trans (Ring.bigSep_fin3 _))) $$ Hr
  icases Hr3 with ⟨Hr0, Hr1, Hr2⟩
  ihave Ht1 := (Entails.of_eq (pts_tV (F := F) d L (tq (wid L)) E).symm) $$ Ht
  ihave Ht2 := (Entails.of_eq ((pointsTo_piecesOf _ E (o := 3) (by decide) (tq (wid L))).trans (Ring.bigSep_fin3 _))) $$ Ht1
  icases Ht2 with ⟨Ht0, Ht1, Ht2⟩
  imod (Transfers.batch_alloc (Idealize.ShloMosaic.countersEmb (U := UU)) 4096 (dAll d L E I hI fr) (g := cBcell d (cV L) (jV L)) (E := Set.univ)) $$ HsemB
    with ⟨%γ, %γ₀, %κ, #Hinv, Hγ₀, Hγ⟩
  ihave Hγ' := (Entails.of_eq (bigSep_rows (F := F) (fun p => count (Idealize.ShloMosaic.countersEmb (U := UU)) (γ p) 0))) $$ Hγ
  icases Hγ' with ⟨Hγa, Hγb, Hγc⟩
  have hD : ∀ (t : Fin 3) (j : Fin 96), (dRow d L E I hI fr t j : sProp 𝕄) ⊢ dAll d L E I hI fr (finProdFinEquiv (t, j)) := fun t j => by
    unfold dAll; rw [Equiv.symm_apply_apply]
  iapply (wp_gatherBatch (Idealize.ShloMosaic.countersEmb (U := UU)) V0 (V d (cV L) (jV L)) none (default : HIx 1) 4096 (96 * 4096)
    (rowCredit 0) (rowsCredit 0) pos96 (sVal_lt d L I hI 0) (fun j => finProdFinEquiv ((0 : Fin 3), j)) (hD 0)) $$ [Hinv Ht0 Hr0 Hs0 Hγa]
  · isplitl []; · iexact Hinv
    isplitl [Ht0]; · iexact Ht0
    isplitl [Hr0]; · iexact Hr0
    isplitl [Hs0]; · iexact Hs0
    iexact Hγa
  iintro Hc0
  iapply (wp_gatherBatch (Idealize.ShloMosaic.countersEmb (U := UU)) V0 (V d (cV L) (jV L)) none (default : HIx 1) 4096 (96 * 4096)
    (rowCredit 1) (rowsCredit 1) pos96 (sVal_lt d L I hI 1) (fun j => finProdFinEquiv ((1 : Fin 3), j)) (hD 1)) $$ [Hinv Ht1 Hr1 Hs1 Hγb]
  · isplitl []; · iexact Hinv
    isplitl [Ht1]; · iexact Ht1
    isplitl [Hr1]; · iexact Hr1
    isplitl [Hs1]; · iexact Hs1
    iexact Hγb
  iintro Hc1
  iapply (wp_gatherBatch (Idealize.ShloMosaic.countersEmb (U := UU)) V0 (V d (cV L) (jV L)) none (default : HIx 1) 4096 (96 * 4096)
    (rowCredit 2) (rowsCredit 2) pos96 (sVal_lt d L I hI 2) (fun j => finProdFinEquiv ((2 : Fin 3), j)) (hD 2)) $$ [Hinv Ht2 Hr2 Hs2 Hγc]
  · isplitl []; · iexact Hinv
    isplitl [Ht2]; · iexact Ht2
    isplitl [Hr2]; · iexact Hr2
    isplitl [Hs2]; · iexact Hs2
    iexact Hγc
  iintro Hc2
  ihave Hcr := (show iprop(cred (tallyAt (cBcell d (cV L) (jV L)) (default : HIx 1) (96 * 4096)) ∗ cred (tallyAt (cBcell d (cV L) (jV L)) (default : HIx 1) (96 * 4096))
      ∗ cred (tallyAt (cBcell d (cV L) (jV L)) (default : HIx 1) (96 * 4096)) : sProp 𝕄)
      ⊢ cred (tallyAt (cBcell d (cV L) (jV L)) (default : HIx 1) (288 * 4096 - 0)) from by
    rw [show 288 * 4096 - 0 = 96 * 4096 + (96 * 4096 + 96 * 4096) from rfl, ← tallyAt_add, ← tallyAt_add]
    iintro ⟨H0, H1, H2⟩
    isplitl [H0]; · iexact H0
    isplitl [H1]; · iexact H1
    iexact H2) $$ [Hc0 Hc1 Hc2]
  · isplitl [Hc0]; · iexact Hc0
    isplitl [Hc1]; · iexact Hc1
    iexact Hc2
  ihave HB := (show iprop(inv κ (Transfers.batchBody (Idealize.ShloMosaic.countersEmb (U := UU)) (cBcell d (cV L) (jV L)) 4096 (dAll d L E I hI fr) γ γ₀)
      ∗ count (Idealize.ShloMosaic.countersEmb (U := UU)) γ₀ 0 ∗ cred (tallyAt (cBcell d (cV L) (jV L)) (default : HIx 1) (288 * 4096 - 0)) : sProp 𝕄)
      ⊢ Transfers.Batch (Idealize.ShloMosaic.countersEmb (U := UU)) (V d (cV L) (jV L)) (.dma cc1_scratch2.sem) (default : HIx 1) 4096 (dAll d L E I hI fr) 288 0 from by
    unfold Transfers.Batch
    iintro ⟨#Hi, H0, Hc⟩
    iexists γ, γ₀, κ
    isplitl []; · iexact Hi
    isplitl []
    · rw [show Transfers.pending (n := 3 * 96) 288 = ∅ from by decide, bigSep_empty]; iempintro
    isplitl [H0]; · iexact H0
    iexact Hc) $$ [Hγ₀ Hcr]
  · isplitl []; · iexact Hinv
    isplitl [Hγ₀]; · iexact Hγ₀
    iexact Hcr
  ihave Hm0 := Transfers.MayWaits.elim (SemLoc.dma cc1_scratch2.sem) $$ Hmw
  iapply (wp_waitGatherBatch (Idealize.ShloMosaic.countersEmb (U := UU)) V0 (V d (cV L) (jV L)) none (default : HIx 1) 96 (allCredit 0)
    (j := 288) (u := 0) (by decide)) $$ [HB HO Hm0]
  · isplitl [HB]; · iexact HB
    isplitl [HO]; · iexact HO
    iexact Hm0
  iintro ⟨HB, HO⟩
  ihave Hm1 := Transfers.MayWaits.elim (SemLoc.dma cc1_scratch2.sem) $$ Hmw
  iapply (wp_waitGatherBatch (Idealize.ShloMosaic.countersEmb (U := UU)) V0 (V d (cV L) (jV L)) none (default : HIx 1) 96 (allCredit 1)
    (j := 288) (u := (0 + 96 * 4096)) (by decide)) $$ [HB HO Hm1]
  · isplitl [HB]; · iexact HB
    isplitl [HO]; · iexact HO
    iexact Hm1
  iintro ⟨HB, HO⟩
  ihave Hm2 := Transfers.MayWaits.elim (SemLoc.dma cc1_scratch2.sem) $$ Hmw
  iapply (wp_waitGatherBatch (Idealize.ShloMosaic.countersEmb (U := UU)) V0 (V d (cV L) (jV L)) none (default : HIx 1) 96 (allCredit 2)
    (j := 288) (u := (0 + 96 * 4096 + 96 * 4096)) (by decide)) $$ [HB HO Hm2]
  · isplitl [HB]; · iexact HB
    isplitl [HO]; · iexact HO
    iexact Hm2
  iintro ⟨HB, HO⟩
  imod (show (Transfers.Batch (Idealize.ShloMosaic.countersEmb (U := UU)) (V d (cV L) (jV L)) (.dma cc1_scratch2.sem) (default : HIx 1) 4096 (dAll d L E I hI fr) 288
        (0 + 96 * 4096 + 96 * 4096 + 96 * 4096) : sProp 𝕄)
      ⊢ |={Set.univ}=> iprop(bigSep Finset.univ (dAll d L E I hI fr) ∗ semVal (cBcell d (cV L) (jV L)) 0) from by
    rw [show 0 + 96 * 4096 + 96 * 4096 + 96 * 4096 = 4096 * (3 * 96) from by decide]
    exact Transfers.batch_collect' (Idealize.ShloMosaic.countersEmb (U := UU)) (V d (cV L) (jV L)) (by decide)) $$ HB with ⟨HD, HsemB⟩
  ihave HD' := (Entails.of_eq (bigSep_rows (F := F) (dAll d L E I hI fr))) $$ HD
  icases HD' with ⟨HD0, HD1, HD2⟩
  ihave Hj0 := (gatherJoin d L E I hI fr 0) $$ HD0
  icases Hj0 with ⟨Hr0, Ht0, Hs0⟩
  ihave Hj1 := (gatherJoin d L E I hI fr 1) $$ HD1
  icases Hj1 with ⟨Hr1, Ht1, Hs1⟩
  ihave Hj2 := (gatherJoin d L E I hI fr 2) $$ HD2
  icases Hj2 with ⟨Hr2, Ht2, Hs2⟩
  ihave Hrr := (Entails.of_eq ((pts_rV (F := F) d L (gathS E (sVal d L I))).trans (Ring.bigSep_fin3 _)).symm) $$ [Hr0 Hr1 Hr2]
  · isplitl [Hr0]; · iexact Hr0
    isplitl [Hr1]; · iexact Hr1
    iexact Hr2
  ihave Hss := (Entails.of_eq ((pts_sV (F := F) d L (sVal d L I)).trans (Ring.bigSep_fin3 _)).symm) $$ [Hs0 Hs1 Hs2]
  · isplitl [Hs0]; · iexact Hs0
    isplitl [Hs1]; · iexact Hs1
    iexact Hs2
  ihave Ht3 := (Entails.of_eq ((pointsTo_piecesOf _ E (o := 3) (by decide) (tq (wid L))).trans (Ring.bigSep_fin3 _)).symm) $$ [Ht0 Ht1 Ht2]
  · isplitl [Ht0]; · iexact Ht0
    isplitl [Ht1]; · iexact Ht1
    iexact Ht2
  ihave Ht := (Entails.of_eq (pts_tV (F := F) d L (tq (wid L)) E)) $$ Ht3
  ihave Hr' := (show ((V d (cV L) (jV L)).loc cc1_scratch1 ↦{fullShare} gathS E (sVal d L I) : sProp 𝕄)
    ⊢ ((rV).view.loc (V d (cV L) (jV L)) ↦{fullShare} gathS E (sVal d L I)) from .rfl) $$ Hrr
  ihave Ho' := (Entails.of_eq (pts_oRowK (F := F) d L _).symm) $$ Ho
  sl_exec
  ihave Hi := (Entails.of_eq (pts_iRowK (F := F) d L I)) $$ Hi'
  ihave Ho2 := (Entails.of_eq (pointsTo_congr (g := gath E I) (by
    intro i hi
    obtain ⟨x, -, rfl⟩ := Finset.mem_map.mp hi
    refine (congrFun (View.read_writes_whole (oRowK L).view f0 _) x).trans ?_
    rw [emb_oRowK]
    show E (tIx (I (iAt (wid L) (sIx x))).toNat (x 2)) = E (tIx (I (iIx (oAt (wid L) x))).toNat (x 2))
    rw [show iIx (oAt (wid L) x) = iAt (wid L) (sIx x) from funext fun a => match a with | 0 => rfl | 1 => rfl | 2 => rfl]))) $$ Ho'
  ihave Ho := (Entails.of_eq (pts_oRowK (F := F) d L (gath E I))) $$ Ho2
  rw [wp_ret]
  imodintro
  isplitl [Hi Ht Ho]
  · isplitl [Hi]; · iexact Hi
    isplitl [Ht]; · iexact Ht
    iexact Ho
  isplitl [Hss Hr' Hbufs]
  · isplitl [Hss]; · iexists _; iexact Hss
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _
  isplitl []; swap; · iexact HO
  · ipureintro
    intro p hp
    rcases Finset.mem_insert.mp hp with h | hp; · exact .inr (h ▸ rfl)
    rcases Finset.mem_insert.mp hp with h | hp; · exact .inr (h ▸ rfl)
    rcases Finset.mem_insert.mp hp with h | hp; · exact .inr (h ▸ rfl)
    rcases Finset.mem_insert.mp hp with h | hp; · exact .inr (h ▸ rfl)
    rcases Finset.mem_insert.mp hp with h | hp; · exact .inr (h ▸ rfl)
    exact .inl hp

end Tile

end Cert.Proof

end
-- ==== Proof.Sc.lean ====
/-
  The one SparseCore call: what its handshakes carry, the tasks' obligations, and the call's operands cut into the
  32 tasks' parts and put back.
-/
module

public import proofs.«01_k».proof.Proof.TileBody

@[expose] public section

noncomputable section

namespace Cert.Proof

open Cert.KernelIdeal Cert.KernelIdeal.Gen
open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Task (`c`, `i`)'s number. -/
def wNo : Fin 2 × Fin 16 ≃ Fin 32 := (Equiv.prodComm _ _).trans finProdFinEquiv

variable (E : (d : Dev nD) → Buf (Elt F) (tLoc d)) (I : (d : Dev nD) → Buf (Elt F) (iLoc d)) (O₀ : (d : Dev nD) → Buf (Elt F) (oLoc d))

/-- A task's row numbers, its share of the table, its block of the result at `f`. -/
abbrev part (d : Dev nD) (f : Buf (Elt F) (oLoc d)) (w : Fin 32) : sProp 𝕄 :=
  iprop((iLoc d ↦[iSet w]{fullShare} I d) ∗ (tLoc d ↦{tq w} E d) ∗ (oLoc d ↦[oSet w]{fullShare} f))

omit [FloatOps F] in
theorem nSub_zero : (K (F := F)).nSub 0 = 16 := rfl
omit [FloatOps F] in
theorem nCore_zero : (K (F := F)).nCore 0 = 2 := rfl

/-- The call hands each task its part and takes it back, the result's block at the gathered rows. -/
def P : (K (F := F)).Pay (nD := nD) (Val := Elt F) (Name := ℕ) (U := UU) where
  st := fun q d c => match q with
    | 0 => bigSep Finset.univ fun i : Fin 16 => part E I d (O₀ d) (wNo (Fin.cast nCore_zero c, i))
  dn := fun q d c => match q with
    | 0 => bigSep Finset.univ fun i : Fin 16 => part E I d (gath (E d) (I d)) (wNo (Fin.cast nCore_zero c, i))
  go := fun q d c i => match q with
    | 0 => part E I d (O₀ d) (wNo (Fin.cast nCore_zero c, Fin.cast nSub_zero i))
  td := fun q d c i => match q with
    | 0 => part E I d (gath (E d) (I d)) (wNo (Fin.cast nCore_zero c, Fin.cast nSub_zero i))
  x := fun _ _ => iprop(emp)

instance P_storable : (P (F := F) E I O₀).IsStorable where
  st q d c := match q with
    | 0 => (inferInstance : BI.Storable (upEmb : UEmb _ 𝕄) (bigSep Finset.univ fun i : Fin 16 => part E I d (O₀ d) (wNo (Fin.cast nCore_zero c, i))))
  dn q d c := match q with
    | 0 => (inferInstance : BI.Storable (upEmb : UEmb _ 𝕄) (bigSep Finset.univ fun i : Fin 16 => part E I d (gath (E d) (I d)) (wNo (Fin.cast nCore_zero c, i))))
  go q d c i := match q with
    | 0 => (inferInstance : BI.Storable (upEmb : UEmb _ 𝕄) (part E I d (O₀ d) (wNo (Fin.cast nCore_zero c, Fin.cast nSub_zero i))))
  td q d c i := match q with
    | 0 => (inferInstance : BI.Storable (upEmb : UEmb _ 𝕄) (part E I d (gath (E d) (I d)) (wNo (Fin.cast nCore_zero c, Fin.cast nSub_zero i))))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s)
          (Memref.whole main_v1_2_scv) (Memref.isWhole_whole _) (Memref.whole main_v3_scv) (Memref.isWhole_whole _) (Memref.whole main_v4_scv) (Memref.isWhole_whole _)
          (Memref.whole cc1_scratch0) (Memref.isWhole_whole _) (Memref.whole cc1_scratch1) (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hI : ∀ d x, (I d x).toNat < 8192) : (K (F := F)).TileObl (DD (F := F)) VV (P E I O₀) v00 0 := by
  intro d c i O W hO _ _
  simp only [show (P E I O₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (DD (F := F)) (Pipeline.defs_kernel pcfgs defs₀) V0 _ Set.univ none _ _)
  rw [defs₀_vector]; simp only [SparseCore.onTile, hci, and_self, ↓reduceDIte]
  have hw : wNo (Fin.cast nCore_zero c, Fin.cast nSub_zero i) = wid (coordsV ⟨_, hci.1⟩ ⟨_, hci.2⟩) :=
    Fin.ext (by show (Fin.cast nCore_zero c).val + 2 * (Fin.cast nSub_zero i).val = 2 * i.val + c.val; show c.val + 2 * i.val = _; omega)
  show iprop(_ ∗ _ ∗ part E I d (O₀ d) (wNo (Fin.cast nCore_zero c, Fin.cast nSub_zero i)) ∗ _) ⊢ _
  rw [hw]
  refine (tile_body d (coordsV ⟨_, hci.1⟩ ⟨_, hci.2⟩) (E d) (I d) (hI d) scFacts (O₀ d) O W hO).trans (wp_mono frame _ _ fun _ => ?_)
  rw [← hw]
  exact obl_post

/-! ## The 32 parts -/

theorem pts_i (d : Dev nD) (f : Buf (Elt F) (iLoc d)) :
    (iLoc d ↦{fullShare} f : sProp 𝕄) = bigSep Finset.univ fun w : Fin 32 => iLoc d ↦[iSet w]{fullShare} f := by
  have hc : (Finset.univ : Finset (Fin 32)).biUnion iSet = Finset.univ := by
    ext x
    simp only [Finset.mem_biUnion, Finset.mem_univ, true_and, iff_true, mem_iSet]
    exact ⟨x 0, rfl⟩
  have hd : ∀ t ∈ (Finset.univ : Finset (Fin 32)), ∀ t' ∈ (Finset.univ : Finset (Fin 32)), t ≠ t' → Disjoint (iSet t) (iSet t') := by
    intro t _ t' _ h
    rw [Finset.disjoint_left]
    intro x hx hx'
    exact h (Fin.ext ((mem_iSet.mp hx).symm.trans (mem_iSet.mp hx')))
  rw [← pointsTo_biUnion Finset.univ (ℓ := iLoc d) iSet hd, hc]; try rfl
theorem pts_o (d : Dev nD) (f : Buf (Elt F) (oLoc d)) :
    (oLoc d ↦{fullShare} f : sProp 𝕄) = bigSep Finset.univ fun w : Fin 32 => oLoc d ↦[oSet w]{fullShare} f := by
  have hc : (Finset.univ : Finset (Fin 32)).biUnion oSet = Finset.univ := by
    ext x
    simp only [Finset.mem_biUnion, Finset.mem_univ, true_and, iff_true, mem_oSet]
    exact ⟨x 0, rfl⟩
  have hd : ∀ t ∈ (Finset.univ : Finset (Fin 32)), ∀ t' ∈ (Finset.univ : Finset (Fin 32)), t ≠ t' → Disjoint (oSet t) (oSet t') := by
    intro t _ t' _ h
    rw [Finset.disjoint_left]
    intro x hx hx'
    exact h (Fin.ext ((mem_oSet.mp hx).symm.trans (mem_oSet.mp hx')))
  rw [← pointsTo_biUnion Finset.univ (ℓ := oLoc d) oSet hd, hc]; try rfl
theorem pts_t (d : Dev nD) (f : Buf (Elt F) (tLoc d)) :
    (tLoc d ↦{fullShare} f : sProp 𝕄) = bigSep Finset.univ fun w : Fin 32 => tLoc d ↦{tq w} f :=
  pointsTo_piecesOf _ f (by decide) fullShare

/-- Row numbers, table and result whole are the two cores' parts. -/
theorem parts (d : Dev nD) (f : Buf (Elt F) (oLoc d)) :
    iprop((iLoc d ↦{fullShare} I d) ∗ (tLoc d ↦{fullShare} E d) ∗ (oLoc d ↦{fullShare} f))
      = (bigSep Finset.univ fun c : Fin 2 => bigSep Finset.univ fun i : Fin 16 => part E I d f (wNo (c, i)) : sProp 𝕄) := by
  rw [pts_i, pts_t, pts_o, ← bigSep_sep', ← bigSep_sep', bigSep_univ_equiv wNo, bigSep_univ_prod]

theorem st_eq (d : Dev nD) : (bigSep Finset.univ fun c : Fin ((K (F := F)).nCore 0) => (P E I O₀).st 0 d c)
    = iprop((iLoc d ↦{fullShare} I d) ∗ (tLoc d ↦{fullShare} E d) ∗ (oLoc d ↦{fullShare} O₀ d)) :=
  (parts E I d (O₀ d)).symm
theorem dn_eq (d : Dev nD) : (bigSep Finset.univ fun c : Fin ((K (F := F)).nCore 0) => (P E I O₀).dn 0 d c)
    = iprop((iLoc d ↦{fullShare} I d) ∗ (tLoc d ↦{fullShare} E d) ∗ (oLoc d ↦{fullShare} gath (E d) (I d))) :=
  (parts E I d (gath (E d) (I d))).symm

theorem vecSplit : (K (F := F)).VecSplit' (P E I O₀) 0 := by
  intro d c
  show (bigSep Finset.univ fun i : Fin 16 => part E I d (O₀ d) (wNo (Fin.cast nCore_zero c, i))) ⊢ |={Set.univ}=> iprop(
      (bigSep Finset.univ fun i : Fin ((K (F := F)).nSub 0) => part E I d (O₀ d) (wNo (Fin.cast nCore_zero c, Fin.cast nSub_zero i)))
      ∗ ((bigSep Finset.univ fun i : Fin ((K (F := F)).nSub 0) => part E I d (gath (E d) (I d)) (wNo (Fin.cast nCore_zero c, Fin.cast nSub_zero i)))
          -∗ bigSep Finset.univ fun i : Fin 16 => part E I d (gath (E d) (I d)) (wNo (Fin.cast nCore_zero c, i))))
  iintro H; imodintro
  isplitl [H]; · iexact H
  iintro H; iexact H

end Cert.Proof

end
-- ==== Proof.Assign.lean ====
/-
  The first kernel's body, run once at a symbolic grid point: what it leaves in the codes' block, in the loss word and
  in the padded codebook, as functions of the blocks it reads. Two cases: the first point (the padded codebook written,
  the loss word set) and every later one (the loss word added to).
-/
module

public import proofs.«01_k».proof.Proof.Base

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Memref `M`'s buffer on core `c`, held whole at `f`. -/
abbrev pt (c : Dev nD) {sp : Space} {S : Shape} {e : EltTy} (M : Memref sig .tc sp S e) (f : Buf (Elt F) (M.view.loc (c : Thread nD τ))) : sProp (MM F) :=
  M.view.loc (c : Thread nD τ) ↦{fullShare} f

/-- The smallest distances and the codes the body computes from the input's block `v3`, the input weights `v5`, the
    input bias `v7` and the four windows of the codebook, as the chain of the printed values. -/
def asgRes (v3 : Vec F S1x768x576 .f32) (v5 : Vec F S768x64 .f32) (v7 : Vec F S1x64 .f32) (v15 v205 v399 v593 : Vec F S2048x64 .f32) :
    FVec F S576x1 .f32 × IVec S1x1x576 32 :=
  let v14 : IVec S576x128 32 := iota .tc S576x128 32 [1] iota_S576x128_d1_w32
  let v10 := k0_pay4 v3 v5 v7
  let v13 := k0_pay5 v3 v5 v7
  let v18 := k0_pay6 v15
  let v21 := k0_pay7 v3 v5 v7 v15
  let v29 := k0_pay9
  let v37 := k0_pay11
  let v38 := k0_pay12 v3 v5 v7 v15
  let v39 := k0_pay13 v3 v5 v7 v15
  let v84 := k0_pay22 v13 v14 v18 v21 v29 v37 v38 v39
  let v92 := k0_pay24 v14
  let v93 := k0_pay25 v13 v18 v21 v39
  let v94 := k0_pay26 v13 v18 v21 v39
  let v139 := k0_pay35 v13 v14 v18 v21 v84 v92 v93 v94
  let v147 := k0_pay37 v14
  let v148 := k0_pay38 v13 v18 v21 v94
  let v149 := k0_pay39 v13 v18 v21 v94
  let v196 := k0_pay48 v13 v18 v21 v149
  let v202 := k0_pay49 v13 v14 v18 v21 v139 v147 v148 v149
  let v204 := k0_pay50 v196
  let v208 := k0_pay51 v205
  let v211 := k0_pay52 v10 v205
  let v251 := k0_pay59 v10 v13 v205
  let v252 := k0_pay60 v10 v13 v14 v205
  let v253 := k0_pay61 v10 v205
  let v306 := k0_pay71 v13 v208 v211 v251 v253
  let v307 := k0_pay72 v13 v14 v208 v211 v251 v252 v253
  let v308 := k0_pay73 v211
  let v361 := k0_pay83 v13 v208 v211 v306 v308
  let v362 := k0_pay84 v13 v14 v208 v211 v306 v307 v308
  let v363 := k0_pay85 v211
  let v396 := k0_pay92 v13 v14 v202 v204 v208 v211 v361 v362 v363
  let v397 := k0_pay93 v13 v196 v204 v208 v211 v361 v363
  let v398 := k0_pay94 v13 v204 v208 v211 v361 v363
  let v402 := k0_pay95 v399
  let v405 := k0_pay96 v10 v399
  let v411 := k0_pay97 v10 v13 v399
  let v412 := k0_pay98
  let v457 := k0_pay107 v13 v14 v402 v405 v411 v412
  let v465 := k0_pay109 v14
  let v466 := k0_pay110 v13 v402 v405 v411
  let v467 := k0_pay111 v13 v402 v405 v411
  let v512 := k0_pay120 v13 v14 v402 v405 v457 v465 v466 v467
  let v520 := k0_pay122 v14
  let v521 := k0_pay123 v13 v402 v405 v467
  let v522 := k0_pay124 v13 v402 v405 v467
  let v567 := k0_pay133 v13 v14 v402 v405 v512 v520 v521 v522
  let v575 := k0_pay135 v14
  let v576 := k0_pay136 v13 v402 v405 v522
  let v577 := k0_pay137 v13 v402 v405 v522
  let v590 := k0_pay140 v396 v398 v567 v575 v576 v577
  let v591 := k0_pay141 v397 v398 v577
  let v592 := k0_pay142 v398 v577
  let v596 := k0_pay143 v593
  let v599 := k0_pay144 v10 v593
  let v617 := k0_pay147 v10 v13 v593
  let v618 := k0_pay148 v10 v13 v14 v593
  let v624 := k0_pay149 v10 v13 v593
  let v626 := k0_pay150 v14
  let v672 := k0_pay159 v13 v596 v599 v617 v624
  let v673 := k0_pay160 v13 v14 v596 v599 v617 v618 v624 v626
  let v679 := k0_pay161 v13 v596 v599
  let v681 := k0_pay162 v14
  let v727 := k0_pay171 v13 v596 v599 v672 v679
  let v728 := k0_pay172 v13 v14 v596 v599 v672 v673 v679 v681
  let v734 := k0_pay173 v13 v596 v599
  let v736 := k0_pay174 v14
  let v783 := k0_pay184 v13 v591 v592 v596 v599 v727 v734
  let v787 := k0_pay185 v13 v14 v590 v592 v596 v599 v727 v728 v734 v736
  (v783, v787)

/-- Window `w` of the codebook, its rows from `r` on. -/
abbrev win (e : Vec F S8192x64 .f32) (r : ℕ) (h : ∀ a, (![r, 0] : Fin 2 → Nat) a + S2048x64.size a ≤ S8192x64.size a) : Vec F S2048x64 .f32 :=
  View.ld e (Rect.unit (s := S8192x64) ![r, 0] S2048x64.size h)

/-- What the body computes of a block and the whole codebook. -/
def asgOf (x : Vec F S1x768x576 .f32) (w : Vec F S768x64 .f32) (b : Vec F S1x64 .f32) (e : Vec F S8192x64 .f32) : FVec F S576x1 .f32 × IVec S1x1x576 32 :=
  asgRes x w b (win e 0 inb_S8192x64_S2048x64_0_0) (win e 2048 inb_S8192x64_S2048x64_2048_0) (win e 4096 inb_S8192x64_S2048x64_4096_0)
    (win e 6144 inb_S8192x64_S2048x64_6144_0)

/-- The codebook padded with zero columns. -/
def cbpOf (e : Vec F S8192x64 .f32) : Vec F S8192x128 .f32 :=
  fun p => if h : (p 1).val < 64 then e (fun | 0 => p 0 | 1 => ⟨(p 1).val, h⟩) else Scalar.ofBits .f32 0x00000000#32

/-- The one index of the loss word. -/
def ix00 : S1x1.Idx := fun a => ⟨0, by fin_cases a <;> decide⟩

instance : Subsingleton S1x1.Idx := ⟨fun x y => funext fun a => Fin.ext (by
  have hx : (x a).val < 1 := by have := (x a).isLt; fin_cases a <;> exact this
  have hy : (y a).val < 1 := by have := (y a).isLt; fin_cases a <;> exact this
  omega)⟩

theorem zz2 : (![0, 0] : Fin 2 → Nat) = fun _ => 0 := funext fun a => by fin_cases a <;> rfl
theorem zz3 : (![0, 0, 0] : Fin 3 → Nat) = fun _ => 0 := funext fun a => by fin_cases a <;> rfl

theorem cbpOf_ge (e : Vec F S8192x64 .f32) {p : S8192x128.Idx} (h : ¬ (p 1).val < 64) : cbpOf e p = Scalar.ofBits .f32 0x00000000#32 := dif_neg h
theorem cbpOf_lt (e : Vec F S8192x64 .f32) {p : S8192x128.Idx} (h : (p 1).val < 64) :
    cbpOf e p = e (fun | 0 => p 0 | 1 => ⟨(p 1).val, h⟩) := dif_pos h

/-- The two stores of the padded codebook leave it. -/
theorem cbp_canon (e : Vec F S8192x64 .f32) :
    View.canon [(⟨Rect.unit (s := S8192x128) ![0, 64] S8192x64.size inb_S8192x128_S8192x64_0_64, k0_pay3 (F := F)⟩ : View.Piece (Elt F) S8192x128 .f32),
      ⟨Rect.unit (s := S8192x128) ![0, 0] S8192x64.size inb_S8192x128_S8192x64_0_0, e⟩] = cbpOf e := by
  funext y
  refine View.canon_apply_of_pieces (cbpOf e) _ ?_ y ?_
  · intro p hp x
    rcases List.mem_cons.1 hp with rfl | hp
    · exact (cbpOf_ge (F := F) e (p := (Rect.unit (s := S8192x128) ![0, 64] S8192x64.size inb_S8192x128_S8192x64_0_64).emb x)
        (show ¬ 64 + 1 * (x 1).val < 64 by omega)).symm
    · rcases List.mem_cons.1 hp with rfl | hp
      · have h : 0 + 1 * (x 1).val < 64 := by have : (x 1).val < 64 := (x 1).isLt; omega
        refine Eq.trans ?_ (dif_pos h).symm
        show e x = e _
        congr 1
        funext a
        fin_cases a <;> apply Fin.ext <;> simp
      · simp at hp
  · by_cases h : (y 1).val < 64
    · refine ⟨_, List.mem_cons_of_mem _ List.mem_cons_self, ?_⟩
      rw [Rect.mem_set_unit]
      intro a
      have h0 : (y 0).val < 8192 := (y 0).isLt
      fin_cases a
      · exact ⟨Nat.zero_le _, by show (y 0).val < 0 + 8192; omega⟩
      · exact ⟨Nat.zero_le _, by show (y 1).val < 0 + 64; omega⟩
    · refine ⟨_, List.mem_cons_self, ?_⟩
      rw [Rect.mem_set_unit]
      intro a
      have h0 : (y 0).val < 8192 := (y 0).isLt
      have h1 : (y 1).val < 128 := (y 1).isLt
      fin_cases a
      · exact ⟨Nat.zero_le _, by show (y 0).val < 0 + 8192; omega⟩
      · exact ⟨by show 64 ≤ (y 1).val; omega, by show (y 1).val < 64 + 64; omega⟩

/-- The body at the first point. -/
theorem asg_first (c : Dev nD) (i : grid0.Coords) (M1 : Memref sig .tc .vmem S1x768x576 .f32) (h1 : M1.IsWhole) (M2 : Memref sig .tc .vmem S768x64 .f32) (h2 : M2.IsWhole)
    (M3 : Memref sig .tc .vmem S1x64 .f32) (h3 : M3.IsWhole) (M4 : Memref sig .tc .vmem S8192x64 .f32) (h4 : M4.IsWhole)
    (M5 : Memref sig .tc .vmem S1x1x576 .i32) (h5 : M5.IsWhole) (M6 : Memref sig .tc .smem S1x1 .f32) (h6 : M6.IsWhole) (M7 : Memref sig .tc .vmem S8192x128 .f32) (h7 : M7.IsWhole)
    (f1 : Buf (Elt F) (M1.view.loc (c : Thread nD τ))) (f2 : Buf (Elt F) (M2.view.loc (c : Thread nD τ))) (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ))) (f7 : Buf (Elt F) (M7.view.loc (c : Thread nD τ)))
    (c1 : k0_cond1 i = 1#1) (c2 : k0_cond2 i = 1#1) (c3 : ¬ k0_cond3 i = 1#1) (E : Set ℕ) (Q : PUnit → sProp (MM F)) :
    iprop(pt c M1 f1 ∗ pt c M2 f2 ∗ pt c M3 f3 ∗ pt c M4 f4 ∗ pt c M5 f5 ∗ pt c M6 f6 ∗ pt c M7 f7 ∗
        (pt c M1 f1 ∗ pt c M2 f2 ∗ pt c M3 f3 ∗ pt c M4 f4 ∗
          (∃ f5', pt c M5 f5' ∗ ⌜M5.view.read (Elt F) f5' = (asgOf (M1.view.read (Elt F) f1) (M2.view.read (Elt F) f2) (M3.view.read (Elt F) f3) (M4.view.read (Elt F) f4)).2⌝) ∗
          (∃ f6', pt c M6 f6' ∗ ⌜M6.view.read (Elt F) f6' = fun _ => k0_pay1 (asgOf (M1.view.read (Elt F) f1) (M2.view.read (Elt F) f2) (M3.view.read (Elt F) f3) (M4.view.read (Elt F) f4)).1⌝) ∗ (∃ f7', pt c M7 f7' ∗ ⌜M7.view.read (Elt F) f7' = cbpOf (M4.view.read (Elt F) f4)⌝) -∗ Q ⟨⟩))
      ⊢ wp frame (wpE (defs₀ (F := F)) Variants.none c none) E (cc0__assign_body i M1 h1 M2 h2 M3 h3 M4 h4 M5 h5 M6 h6 M7 h7) Q := by
  iintro ⟨H1, H2, H3, H4, H5, H6, H7, Hk⟩
  sl_exec_parts!
  sl_step
  iapply Hk
  isplitl [H1]; · iexact H1
  isplitl [H2]; · iexact H2
  isplitl [H3]; · iexact H3
  isplitl [H4]; · iexact H4
  isplitl [H5]
  · iexists _
    isplitl [H5]; · iexact H5
    ipureintro
    sl_unfold_words
    rw [View.read_writes_junk_eq_canon, View.canon_unit_zero (S := S1x1x576) zz3 inb_S1x1x576_S1x1x576_0_0_0]
    simp only [View.readAt_eq_ld, View.ld_unit_zero (S := S1x768x576) zz3, View.ld_unit_zero (S := S768x64) zz2, View.ld_unit_zero (S := S1x64) zz2]
    rfl
  isplitl [H6]
  · iexists _
    isplitl [H6]; · iexact H6
    ipureintro
    sl_unfold_words
    rw [View.read_writes_junk_eq_canon, View.canon_unit_zero (S := S1x1) zz2 inb_S1x1_S1x1_0_0]
    simp only [View.readAt_eq_ld, View.ld_unit_zero (S := S1x768x576) zz3, View.ld_unit_zero (S := S768x64) zz2, View.ld_unit_zero (S := S1x64) zz2]
    rfl
  iexists _
  isplitl [H7]; · iexact H7
  ipureintro
  sl_unfold_words
  rw [View.read_writes_junk_eq_canon]
  rw [View.readAt_eq_ld, View.ld_unit_zero (S := S8192x64) zz2]
  exact cbp_canon _

/-- The body at a later point: the loss word read first, the padded codebook left alone. -/
theorem asg_later (c : Dev nD) (i : grid0.Coords) (M1 : Memref sig .tc .vmem S1x768x576 .f32) (h1 : M1.IsWhole) (M2 : Memref sig .tc .vmem S768x64 .f32) (h2 : M2.IsWhole)
    (M3 : Memref sig .tc .vmem S1x64 .f32) (h3 : M3.IsWhole) (M4 : Memref sig .tc .vmem S8192x64 .f32) (h4 : M4.IsWhole)
    (M5 : Memref sig .tc .vmem S1x1x576 .i32) (h5 : M5.IsWhole) (M6 : Memref sig .tc .smem S1x1 .f32) (h6 : M6.IsWhole) (M7 : Memref sig .tc .vmem S8192x128 .f32) (h7 : M7.IsWhole)
    (f1 : Buf (Elt F) (M1.view.loc (c : Thread nD τ))) (f2 : Buf (Elt F) (M2.view.loc (c : Thread nD τ))) (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ))) (f7 : Buf (Elt F) (M7.view.loc (c : Thread nD τ)))
    (c1 : ¬ k0_cond1 i = 1#1) (c2 : ¬ k0_cond2 i = 1#1) (c3 : k0_cond3 i = 1#1) (E : Set ℕ) (Q : PUnit → sProp (MM F)) :
    iprop(pt c M1 f1 ∗ pt c M2 f2 ∗ pt c M3 f3 ∗ pt c M4 f4 ∗ pt c M5 f5 ∗ pt c M6 f6 ∗ pt c M7 f7 ∗
        (pt c M1 f1 ∗ pt c M2 f2 ∗ pt c M3 f3 ∗ pt c M4 f4 ∗
          (∃ f5', pt c M5 f5' ∗ ⌜M5.view.read (Elt F) f5' = (asgOf (M1.view.read (Elt F) f1) (M2.view.read (Elt F) f2) (M3.view.read (Elt F) f3) (M4.view.read (Elt F) f4)).2⌝) ∗
          (∃ f6', pt c M6 f6' ∗ ⌜M6.view.read (Elt F) f6' = fun _ => k0_pay2 (asgOf (M1.view.read (Elt F) f1) (M2.view.read (Elt F) f2) (M3.view.read (Elt F) f3) (M4.view.read (Elt F) f4)).1 (M6.view.read (Elt F) f6 ix00)⌝) ∗ pt c M7 f7 -∗ Q ⟨⟩))
      ⊢ wp frame (wpE (defs₀ (F := F)) Variants.none c none) E (cc0__assign_body i M1 h1 M2 h2 M3 h3 M4 h4 M5 h5 M6 h6 M7 h7) Q := by
  iintro ⟨H1, H2, H3, H4, H5, H6, H7, Hk⟩
  sl_exec_parts!
  sl_step
  iapply Hk
  isplitl [H1]; · iexact H1
  isplitl [H2]; · iexact H2
  isplitl [H3]; · iexact H3
  isplitl [H4]; · iexact H4
  isplitl [H5]
  · iexists _
    isplitl [H5]; · iexact H5
    ipureintro
    sl_unfold_words
    rw [View.read_writes_junk_eq_canon, View.canon_unit_zero (S := S1x1x576) zz3 inb_S1x1x576_S1x1x576_0_0_0]
    simp only [View.readAt_eq_ld, View.ld_unit_zero (S := S1x768x576) zz3, View.ld_unit_zero (S := S768x64) zz2, View.ld_unit_zero (S := S1x64) zz2]
    rfl
  isplitl [H6]
  · iexists _
    isplitl [H6]; · iexact H6
    ipureintro
    sl_unfold_words
    rw [View.read_writes_junk_eq_canon, View.canon_unit_zero (S := S1x1) zz2 inb_S1x1_S1x1_0_0]
    simp only [View.readAt_eq_ld, View.ld_unit_zero (S := S1x768x576) zz3, View.ld_unit_zero (S := S768x64) zz2, View.ld_unit_zero (S := S1x64) zz2]
    exact funext fun _ => congrArg₂ k0_pay2 rfl (congrArg (M6.view.read (Elt F) f6) (Subsingleton.elim (α := S1x1.Idx) _ _))
  iexact H7

end Cert.Proof

end
-- ==== Proof.Proj.lean ====
/-
  The last kernel's body, run once at a symbolic grid point: what it leaves in the result's block, as a function of the
  gathered rows' block, the output weights and the output bias.
-/
module

public import proofs.«01_k».proof.Proof.Assign

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem proj_body (c : Dev nD) (i : grid2.Coords) (M1 : Memref sig .tc .vmem S1x576x128 .f32) (h1 : M1.IsWhole) (M2 : Memref sig .tc .vmem S64x768 .f32) (h2 : M2.IsWhole)
    (M3 : Memref sig .tc .vmem S768x1 .f32) (h3 : M3.IsWhole) (M4 : Memref sig .tc .vmem S1x768x576 .f32) (h4 : M4.IsWhole)
    (f1 : Buf (Elt F) (M1.view.loc (c : Thread nD τ))) (f2 : Buf (Elt F) (M2.view.loc (c : Thread nD τ))) (f3 : Buf (Elt F) (M3.view.loc (c : Thread nD τ))) (f4 : Buf (Elt F) (M4.view.loc (c : Thread nD τ)))
    (E : Set ℕ) (Q : PUnit → sProp (MM F)) :
    iprop(pt c M1 f1 ∗ pt c M2 f2 ∗ pt c M3 f3 ∗ pt c M4 f4 ∗
        (pt c M1 f1 ∗ pt c M2 f2 ∗ pt c M3 f3 ∗
          (∃ f4', pt c M4 f4' ∗ ⌜M4.view.read (Elt F) f4' = k2_pay1 (M1.view.read (Elt F) f1) (M2.view.read (Elt F) f2) (M3.view.read (Elt F) f3)⌝) -∗ Q ⟨⟩))
      ⊢ wp frame (wpE (defs₀ (F := F)) Variants.none c none) E (cc2__proj_body i M1 h1 M2 h2 M3 h3 M4 h4) Q := by
  iintro ⟨H1, H2, H3, H4, Hk⟩
  sl_exec!
  sl_step
  iapply Hk
  isplitl [H1]; · iexact H1
  isplitl [H2]; · iexact H2
  isplitl [H3]; · iexact H3
  iexists _
  isplitl [H4]; · iexact H4
  ipureintro
  sl_unfold_words
  rw [View.read_writes_junk_eq_canon, View.canon_unit_zero (S := S1x768x576) zz3 inb_S1x768x576_S1x768x576_0_0_0]
  simp only [View.readAt_eq_ld, View.ld_unit_zero (S := S1x576x128) zz3, View.ld_unit_zero (S := S64x768) zz2, View.ld_unit_zero (S := S768x1) zz2]

end Cert.Proof

end
-- ==== Proof.Dats.lean ====
/-
  The proof data of the two pipelines, each entered at a valuation `V` of the buffers: what each window's buffer holds
  after the body at each grid point, and the body obligations. The first pipeline's loss word is a running sum, its
  padded codebook is written at the first point and left alone after.
-/
module

public import proofs.«01_k».proof.Proof.Proj

@[expose] public section

noncomputable section

namespace Cert.Proof

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the pipelines' recorded waits stay within while they run at SparseCore round `n`. -/
def recW (c : Dev nD) (n : ℕ) : Set (SemLoc sig × HIx 1) := {p | (K (F := F)).lev (T c, p.1) p.2 ≤ 8 * n}

variable (V : Valuation τ sig (Elt F))

/-- The block of window `w` of the first pipeline at point `t`. -/
abbrev blk0 (w : Fin 7) (t : Fin cfg0.N) : ((cfg0.win w).xblock (cfg0.grid.coords t)).Idx → Elt F (cfg0.win w).elt :=
  ((cfg0.win w).blk t).view.read (Elt F) (V (Proc.devRef .tc (Pipeline.arrRef spec0 w)))

/-- What the first body computes at point `t`: smallest distances and codes. -/
abbrev asgAt (t : Fin cfg0.N) : FVec F S576x1 .f32 × IVec S1x1x576 32 :=
  asgOf (blk0 V 0 t) (blk0 V 1 t) (blk0 V 2 t) (blk0 V 3 t)

/-- The point numbered `n`. -/
def pnt (n : ℕ) : Fin cfg0.N := ⟨n % 16, show n % 16 < grid0.N by rw [N_0]; exact Nat.mod_lt _ (by decide)⟩

theorem pnt_val (t : Fin cfg0.N) : pnt t.val = t := by
  have h : t.val < grid0.N := t.isLt
  rw [N_0] at h
  exact Fin.ext (Nat.mod_eq_of_lt h)

/-- The loss word after point `n`. -/
def lossAt : ℕ → F .f32
  | 0 => k0_pay1 (asgAt V (pnt 0)).1
  | n + 1 => k0_pay2 (asgAt V (pnt (n + 1))).1 (lossAt n)

/-- The first pipeline's proof data on core `c` at SparseCore round `n`. -/
def dat0 (n : ℕ) (c : Dev nD) : Dat τ (Elt F) (HIx 1) ℕ UU ℕ cfg0 c where
  A w := V (Proc.devRef .tc (Pipeline.arrRef spec0 w))
  after w t := match w with
    | ⟨0, _⟩ => blk0 V 0 t
    | ⟨1, _⟩ => blk0 V 1 t
    | ⟨2, _⟩ => blk0 V 2 t
    | ⟨3, _⟩ => blk0 V 3 t
    | ⟨4, _⟩ => (asgAt V t).2
    | ⟨5, _⟩ => fun _ => lossAt V t.val
    | ⟨6, _⟩ => cbpOf (blk0 V 3 t)
  Φ _ := Pipeline.scopedRest (Ix := HIx 1) (Name := ℕ) (U := UU) (Lvl := ℕ) (Val := Elt F) spec0 c
  q _ := fullShare
  owed _ := (K (F := F)).Otc c n
  recorded _ := recW (F := F) c n

theorem before0_0 (n : ℕ) (c : Dev nD) (t : Fin cfg0.N) (d) : (dat0 V n c).before 0 t d = blk0 V 0 t :=
  (dat0 V n c).before_in_eq_fetched 0 rfl (fun _ => rfl) (fun _ _ _ => rfl) (fun _ => rfl) t d
theorem before0_1 (n : ℕ) (c : Dev nD) (t : Fin cfg0.N) (d) : (dat0 V n c).before 1 t d = blk0 V 1 t :=
  (dat0 V n c).before_in_eq_fetched 1 rfl (fun _ => rfl) (fun _ _ _ => rfl) (fun _ => rfl) t d
theorem before0_2 (n : ℕ) (c : Dev nD) (t : Fin cfg0.N) (d) : (dat0 V n c).before 2 t d = blk0 V 2 t :=
  (dat0 V n c).before_in_eq_fetched 2 rfl (fun _ => rfl) (fun _ _ _ => rfl) (fun _ => rfl) t d
theorem before0_3 (n : ℕ) (c : Dev nD) (t : Fin cfg0.N) (d) : (dat0 V n c).before 3 t d = blk0 V 3 t :=
  (dat0 V n c).before_in_eq_fetched 3 rfl (fun _ => rfl) (fun _ _ _ => rfl) (fun _ => rfl) t d

theorem t_lt (t : Fin cfg0.N) : t.val < 16 := by
  have h : t.val < grid0.N := t.isLt
  rwa [N_0] at h

theorem flush5_ne (t : Fin cfg0.N) (h : t.val ≠ 15) : (cfg0.win 5).flush t = false := by
  have := t_lt t
  exact Bool.eq_false_iff.2 fun hf => by have := (flush0_5 t).1 hf; omega
theorem flush6_ne (t : Fin cfg0.N) (h : t.val ≠ 15) : (cfg0.win 6).flush t = false := by
  have := t_lt t
  exact Bool.eq_false_iff.2 fun hf => by have := (flush0_6 t).1 hf; omega

/-- The grid point's conditions: the first point against the later ones. -/
theorem conds (t : Fin cfg0.N) : (t.val = 0 → k0_cond1 (grid0.coords t) = 1#1 ∧ k0_cond2 (grid0.coords t) = 1#1 ∧ ¬ k0_cond3 (grid0.coords t) = 1#1) ∧
    (t.val ≠ 0 → ¬ k0_cond1 (grid0.coords t) = 1#1 ∧ ¬ k0_cond2 (grid0.coords t) = 1#1 ∧ k0_cond3 (grid0.coords t) = 1#1) := by
  revert t; decide +kernel

theorem idle5 (t : Fin cfg0.N) : cfg0.idle 5 (grid0.coords t) = false := by
  by_cases h : t.val = 0
  · have := ((conds t).1 h).2.1
    show (!(k0_cond2 (grid0.coords t) == 1#1) && !(k0_cond3 (grid0.coords t) == 1#1)) = false
    rw [this]; rfl
  · have := ((conds t).2 h).2.2
    show (!(k0_cond2 (grid0.coords t) == 1#1) && !(k0_cond3 (grid0.coords t) == 1#1)) = false
    rw [this]; simp

theorem idle6_zero (t : Fin cfg0.N) (h : t.val = 0) : cfg0.idle 6 (grid0.coords t) = false := by
  have := ((conds t).1 h).1
  show (!(k0_cond1 (grid0.coords t) == 1#1)) = false
  rw [this]; rfl
theorem idle6_pos (t : Fin cfg0.N) (h : t.val ≠ 0) : cfg0.idle 6 (grid0.coords t) = true := by
  have := ((conds t).2 h).1
  show (!(k0_cond1 (grid0.coords t) == 1#1)) = true
  simpa using this

/-- At a later point the loss word is what the point before left. -/
theorem before0_5 (n : ℕ) (c : Dev nD) (t : Fin cfg0.N) (h : t.val ≠ 0) (d) :
    (dat0 V n c).before 5 t d = fun _ => lossAt V (t.val - 1) := by
  have ht := t_lt t
  rw [(dat0 V n c).before_of_pos 5 t h rfl, flush5_ne _ (by show t.val - 1 ≠ 15; omega), if_neg Bool.false_ne_true]
  unfold Dat.left
  rw [idle5]
  rfl

/-- At a later point the padded codebook is what the first point left. -/
theorem before0_6 (n : ℕ) (c : Dev nD) (t : Fin cfg0.N) (h : t.val ≠ 0) (d) :
    (dat0 V n c).before 6 t d = cbpOf (blk0 V 3 (pnt 0)) := by
  obtain ⟨m, hm⟩ := t
  induction m with
  | zero => exact absurd rfl h
  | succ m ih =>
    have ht := t_lt ⟨m + 1, hm⟩
    have hm' : m + 1 < 16 := ht
    rw [(dat0 V n c).before_of_pos 6 _ h rfl, flush6_ne _ (by show m + 1 - 1 ≠ 15; omega), if_neg Bool.false_ne_true]
    unfold Dat.left
    by_cases h0 : m = 0
    · subst h0
      rw [idle6_zero _ rfl]
      rfl
    · rw [idle6_pos _ (show m + 1 - 1 ≠ 0 by omega)]
      exact ih (Nat.lt_of_succ_lt hm) h0

/-- The codebook's block is the whole codebook at every point. -/
theorem blk0_3 (t t' : Fin cfg0.N) : blk0 V 3 t = blk0 V 3 t' := rfl

/-- A whole memref owned at `X` is its buffer held at contents that read `X`. -/
theorem owns_pt (c : Dev nD) {sp : Space} {S : Shape} {e : EltTy} (M : Memref sig .tc sp S e) (h : M.IsWhole) (X : S.Idx → Elt F e) :
    (owns (c : Thread nD τ) M fullShare X : sProp (MM F)) = iprop(∃ f, ⌜M.view.read (Elt F) f = X⌝ ∗ pt c M f) := by
  unfold owns; rw [h.set_eq_univ]

/-- The same, read back. -/
theorem owns_back (c : Dev nD) {sp : Space} {S : Shape} {e : EltTy} (M : Memref sig .tc sp S e) (h : M.IsWhole) (X : S.Idx → Elt F e) (f)
    (hf : M.view.read (Elt F) f = X) : (pt c M f : sProp (MM F)) ⊢ owns (c : Thread nD τ) M fullShare X := by
  rw [owns_pt c M h]
  iintro H
  iexists f
  isplitr; · ipureintro; exact hf
  iexact H

set_option maxHeartbeats 2000000 in
/-- The first pipeline's body obligation. -/
theorem body0 (n : ℕ) (c : Dev nD) : BodyObligation (dat0 V n c) (defs₀ (F := F)) V0 none Set.univ := fun t => by
  rw [bigSep_W0, bigSep_W0]
  rw [show (dat0 V n c).Φ t.castSucc = Pipeline.scopedRest (Ix := HIx 1) (Name := ℕ) (U := UU) (Lvl := ℕ) (Val := Elt F) spec0 c from rfl,
    show (dat0 V n c).Φ t.succ = Pipeline.scopedRest (Ix := HIx 1) (Name := ℕ) (U := UU) (Lvl := ℕ) (Val := Elt F) spec0 c from rfl,
    show (dat0 V n c).owesAt none t.succ = (dat0 V n c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  ihave H0 := (Entails.of_eq (owns_pt c _ (stage_whole0 0 _) _)) $$ H0
  ihave H1 := (Entails.of_eq (owns_pt c _ (stage_whole0 1 _) _)) $$ H1
  ihave H2 := (Entails.of_eq (owns_pt c _ (stage_whole0 2 _) _)) $$ H2
  ihave H3 := (Entails.of_eq (owns_pt c _ (stage_whole0 3 _) _)) $$ H3
  ihave H4 := (Entails.of_eq (owns_pt c _ (stage_whole0 4 _) _)) $$ H4
  ihave H5 := (Entails.of_eq (owns_pt c _ (stage_whole0 5 _) _)) $$ H5
  ihave H6 := (Entails.of_eq (owns_pt c _ (stage_whole0 6 _) _)) $$ H6
  icases H0 with ⟨%f0, %hf0, H0⟩
  icases H1 with ⟨%f1, %hf1, H1⟩
  icases H2 with ⟨%f2, %hf2, H2⟩
  icases H3 with ⟨%f3, %hf3, H3⟩
  icases H4 with ⟨%f4, -, H4⟩
  icases H5 with ⟨%f5, %hf5, H5⟩
  icases H6 with ⟨%f6, %hf6, H6⟩
  rw [before0_0] at hf0
  rw [before0_1] at hf1
  rw [before0_2] at hf2
  rw [before0_3] at hf3
  by_cases h : t.val = 0
  · obtain ⟨c1, c2, c3⟩ := (conds t).1 h
    iapply (asg_first c (grid0.coords t) (st0_0 t) (stage_whole0 0 _) (st0_1 t) (stage_whole0 1 _) (st0_2 t) (stage_whole0 2 _) (st0_3 t) (stage_whole0 3 _)
      (st0_4 t) (stage_whole0 4 _) (st0_5 t) (stage_whole0 5 _) (st0_6 t) (stage_whole0 6 _) f0 f1 f2 f3 f4 f5 f6 c1 c2 c3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    rw [hf0, hf1, hf2, hf3]
    iintro ⟨H0, H1, H2, H3, ⟨%g4, H4, %hg4⟩, ⟨%g5, H5, %hg5⟩, ⟨%g6, H6, %hg6⟩⟩
    isplitl [HΦ]; · iexact HΦ
    isplitl [Howes]; · iexact Howes
    isplitl [H0]; · iapply (owns_back c _ (stage_whole0 0 _) _ f0 hf0); iexact H0
    isplitl [H1]; · iapply (owns_back c _ (stage_whole0 1 _) _ f1 hf1); iexact H1
    isplitl [H2]; · iapply (owns_back c _ (stage_whole0 2 _) _ f2 hf2); iexact H2
    isplitl [H3]; · iapply (owns_back c _ (stage_whole0 3 _) _ f3 hf3); iexact H3
    isplitl [H4]; · iapply (owns_back c _ (stage_whole0 4 _) _ g4 hg4); iexact H4
    isplitl [H5]
    · rw [show cfg0.idle 5 (cfg0.grid.coords t) = false from idle5 t]
      iapply (owns_back c _ (stage_whole0 5 _) _ g5)
      · rw [hg5]
        obtain rfl : t = pnt 0 := Fin.ext h
        rfl
      iexact H5
    rw [show cfg0.idle 6 (cfg0.grid.coords t) = false from idle6_zero t h]
    iapply (owns_back c _ (stage_whole0 6 _) _ g6 hg6)
    iexact H6
  · obtain ⟨c1, c2, c3⟩ := (conds t).2 h
    rw [before0_5 _ _ _ _ h] at hf5
    iapply (asg_later c (grid0.coords t) (st0_0 t) (stage_whole0 0 _) (st0_1 t) (stage_whole0 1 _) (st0_2 t) (stage_whole0 2 _) (st0_3 t) (stage_whole0 3 _)
      (st0_4 t) (stage_whole0 4 _) (st0_5 t) (stage_whole0 5 _) (st0_6 t) (stage_whole0 6 _) f0 f1 f2 f3 f4 f5 f6 c1 c2 c3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    rw [hf0, hf1, hf2, hf3]
    iintro ⟨H0, H1, H2, H3, ⟨%g4, H4, %hg4⟩, ⟨%g5, H5, %hg5⟩, H6⟩
    isplitl [HΦ]; · iexact HΦ
    isplitl [Howes]; · iexact Howes
    isplitl [H0]; · iapply (owns_back c _ (stage_whole0 0 _) _ f0 hf0); iexact H0
    isplitl [H1]; · iapply (owns_back c _ (stage_whole0 1 _) _ f1 hf1); iexact H1
    isplitl [H2]; · iapply (owns_back c _ (stage_whole0 2 _) _ f2 hf2); iexact H2
    isplitl [H3]; · iapply (owns_back c _ (stage_whole0 3 _) _ f3 hf3); iexact H3
    isplitl [H4]; · iapply (owns_back c _ (stage_whole0 4 _) _ g4 hg4); iexact H4
    isplitl [H5]
    · rw [show cfg0.idle 5 (cfg0.grid.coords t) = false from idle5 t]
      iapply (owns_back c _ (stage_whole0 5 _) _ g5)
      · rw [hg5, hf5]
        obtain ⟨m, hm⟩ : ∃ m, t.val = m + 1 := ⟨t.val - 1, by omega⟩
        show (fun _ => k0_pay2 (asgAt V t).1 (lossAt V (t.val - 1))) = fun _ => lossAt V t.val
        rw [hm, Nat.add_sub_cancel, lossAt, ← hm, pnt_val]
      iexact H5
    rw [show cfg0.idle 6 (cfg0.grid.coords t) = true from idle6_pos t h]
    by_cases hl : t.val = 15
    · rw [(flush0_6 t).2 (by rw [hl])]
      rw [before0_6 _ _ _ _ h] at hf6
      iapply (owns_back c _ (stage_whole0 6 _) _ f6 hf6)
      iexact H6
    · rw [flush6_ne t hl]
      iexists d6
      iapply (owns_back c _ (stage_whole0 6 _) _ f6 hf6)
      iexact H6

/-! ## The last pipeline -/

/-- The block of window `w` of the last pipeline at point `t`. -/
abbrev blk2 (w : Fin 4) (t : Fin cfg2.N) : ((cfg2.win w).xblock (cfg2.grid.coords t)).Idx → Elt F (cfg2.win w).elt :=
  ((cfg2.win w).blk t).view.read (Elt F) (V (Proc.devRef .tc (Pipeline.arrRef spec2 w)))

/-- The last pipeline's proof data on core `c` at SparseCore round `n`. -/
def dat2 (n : ℕ) (c : Dev nD) : Dat τ (Elt F) (HIx 1) ℕ UU ℕ cfg2 c where
  A w := V (Proc.devRef .tc (Pipeline.arrRef spec2 w))
  after w t := match w with
    | ⟨0, _⟩ => blk2 V 0 t
    | ⟨1, _⟩ => blk2 V 1 t
    | ⟨2, _⟩ => blk2 V 2 t
    | ⟨3, _⟩ => k2_pay1 (blk2 V 0 t) (blk2 V 1 t) (blk2 V 2 t)
  Φ _ := Pipeline.scopedRest (Ix := HIx 1) (Name := ℕ) (U := UU) (Lvl := ℕ) (Val := Elt F) spec2 c
  q _ := fullShare
  owed _ := (K (F := F)).Otc c n
  recorded _ := recW (F := F) c n

theorem before2_0 (n : ℕ) (c : Dev nD) (t : Fin cfg2.N) (d) : (dat2 V n c).before 0 t d = blk2 V 0 t :=
  (dat2 V n c).before_in_eq_fetched 0 rfl (fun _ => rfl) (fun _ _ _ => rfl) (fun _ => rfl) t d
theorem before2_1 (n : ℕ) (c : Dev nD) (t : Fin cfg2.N) (d) : (dat2 V n c).before 1 t d = blk2 V 1 t :=
  (dat2 V n c).before_in_eq_fetched 1 rfl (fun _ => rfl) (fun _ _ _ => rfl) (fun _ => rfl) t d
theorem before2_2 (n : ℕ) (c : Dev nD) (t : Fin cfg2.N) (d) : (dat2 V n c).before 2 t d = blk2 V 2 t :=
  (dat2 V n c).before_in_eq_fetched 2 rfl (fun _ => rfl) (fun _ _ _ => rfl) (fun _ => rfl) t d

/-- The last pipeline's body obligation. -/
theorem body2 (n : ℕ) (c : Dev nD) : BodyObligation (dat2 V n c) (defs₀ (F := F)) V0 none Set.univ := fun t => by
  rw [bigSep_W2, bigSep_W2]
  rw [show (dat2 V n c).Φ t.castSucc = Pipeline.scopedRest (Ix := HIx 1) (Name := ℕ) (U := UU) (Lvl := ℕ) (Val := Elt F) spec2 c from rfl,
    show (dat2 V n c).Φ t.succ = Pipeline.scopedRest (Ix := HIx 1) (Name := ℕ) (U := UU) (Lvl := ℕ) (Val := Elt F) spec2 c from rfl,
    show (dat2 V n c).owesAt none t.succ = (dat2 V n c).owesAt none t.castSucc from rfl]
  iintro ⟨HΦ, Howes, ⟨%d0, H0⟩, ⟨%d1, H1⟩, ⟨%d2, H2⟩, ⟨%d3, H3⟩⟩
  ihave H0 := (Entails.of_eq (owns_pt c _ (stage_whole2 0 _) _)) $$ H0
  ihave H1 := (Entails.of_eq (owns_pt c _ (stage_whole2 1 _) _)) $$ H1
  ihave H2 := (Entails.of_eq (owns_pt c _ (stage_whole2 2 _) _)) $$ H2
  ihave H3 := (Entails.of_eq (owns_pt c _ (stage_whole2 3 _) _)) $$ H3
  icases H0 with ⟨%f0, %hf0, H0⟩
  icases H1 with ⟨%f1, %hf1, H1⟩
  icases H2 with ⟨%f2, %hf2, H2⟩
  icases H3 with ⟨%f3, -, H3⟩
  rw [before2_0] at hf0
  rw [before2_1] at hf1
  rw [before2_2] at hf2
  iapply (proj_body c (grid2.coords t) (st2_0 t) (stage_whole2 0 _) (st2_1 t) (stage_whole2 1 _) (st2_2 t) (stage_whole2 2 _) (st2_3 t) (stage_whole2 3 _)
    f0 f1 f2 f3 Set.univ _)
  isplitl [H0]; · iexact H0
  isplitl [H1]; · iexact H1
  isplitl [H2]; · iexact H2
  isplitl [H3]; · iexact H3
  rw [hf0, hf1, hf2]
  iintro ⟨H0, H1, H2, ⟨%g3, H3, %hg3⟩⟩
  isplitl [HΦ]; · iexact HΦ
  isplitl [Howes]; · iexact Howes
  isplitl [H0]; · iapply (owns_back c _ (stage_whole2 0 _) _ f0 hf0); iexact H0
  isplitl [H1]; · iapply (owns_back c _ (stage_whole2 1 _) _ f1 hf1); iexact H1
  isplitl [H2]; · iapply (owns_back c _ (stage_whole2 2 _) _ f2 hf2); iexact H2
  iapply (owns_back c _ (stage_whole2 3 _) _ g3 hg3)
  iexact H3

end Cert.Proof

end
-- ==== Proof.Segs.lean ====
/-
  The two pipelines as regions of the TensorCore's program: each entered from every unscoped buffer held at a valuation,
  the core owing what the SparseCore launch has it owe at round `n`, and left with the buffers at the pipeline's results.
-/
module

public import proofs.«01_k».proof.Proof.Dats

@[expose] public section

noncomputable section

namespace Cert.Proof

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf pin PLaunchFacts scopedRest arrRef arrRefs ucRefs afterRegion RegionSeg)

variable {F : FTy → Type} [FloatOps F]

/-- The pipelines take no tables. -/
def adm : (p : Fin 2) → (pcfgs (F := F) p).Adm := fun p => (cfgs p).toPCfg_adm

/-- Proof data for a pipeline that is not run: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The proof data family with the first pipeline's at `V`. -/
def pd0 (V : Valuation τ sig (Elt F)) (n : ℕ) : (p : Fin 2) → (c : Dev nD) → Dat τ (Elt F) (HIx 1) ℕ UU ℕ (pin (pcfgs (F := F)) adm p) c
  | ⟨0, _⟩ => fun c => dat0 V n c
  | ⟨1, _⟩ => fun c => junkDat c

/-- The proof data family with the last pipeline's at `V`. -/
def pd2 (V : Valuation τ sig (Elt F)) (n : ℕ) : (p : Fin 2) → (c : Dev nD) → Dat τ (Elt F) (HIx 1) ℕ UU ℕ (pin (pcfgs (F := F)) adm p) c
  | ⟨0, _⟩ => fun c => junkDat c
  | ⟨1, _⟩ => fun c => dat2 V n c

/-- What the core owes at round `n`, its recorded waits below the round's levels. -/
def owed (c : Dev nD) (n : ℕ) : sProp (MM F) :=
  iprop(∃ W, ⌜(K (F := F)).WBelow (T c) W (8 * n)⌝ ∗ owes (T c) ((K (F := F)).Otc c n) W)

/-- A pipeline's region over every unscoped buffer. -/
def mkSeg (p : Fin 2) (pdats : (p : Fin 2) → (c : Dev nD) → Dat τ (Elt F) (HIx 1) ℕ UU ℕ (pin (pcfgs (F := F)) adm p) c) (V : Valuation τ sig (Elt F)) (n : ℕ)
    (kit : PLaunchFacts (nD := nD) (τ := τ) (pcfgs (F := F)) p) (hK : (pcfgs (F := F) p).pre.K = 0)
    (hbody : ∀ c, Pipeline.BodyObligationLoose (pdats p c) (defs₀ (F := F)) V0 none Set.univ)
    (howed : ∀ c t, (pdats p c).owed t = (K (F := F)).Otc c n) (hrec : ∀ c t, (pdats p c).recorded t = recW (F := F) c n)
    (hshare : ∀ c w, (pdats p c).share w = fullShare)
    (hΦ : ∀ c t, (pdats p c).Φ t = scopedRest (pin (pcfgs (F := F)) adm p).spec c)
    (hA : ∀ c w, (pdats p c).arrAt w 0 = V (Proc.devRef .tc (arrRef (pin (pcfgs (F := F)) adm p).spec w)))
    (hu : ∀ w, (arrRef (pcfgs (F := F) p).spec w).isScoped = false) :
    RegionSeg (pcfgs (F := F)) adm pdats none (defs₀ (F := F)) V0 (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_of_cut (pin pcfgs adm) pdats none p c 0 ((K (F := F)).Otc c n) (howed c) (fun _ _ => Finset.mem_univ _) (fun _ _ => le_refl _)
    (fun g i h => ⟨Finset.mem_univ _, lt_of_lt_of_le (Nat.succ_pos _) ((K (F := F)).lev_of_Otc_pos h)⟩)
  pre c := iprop(StableHlo.held (c.tc : Thread nD τ) (ucRefs τ sig) V ∗ owed c n)
  post c := iprop(StableHlo.held (c.tc : Thread nD τ) (ucRefs τ sig) (afterRegion (pdats p c) V) ∗ owed c n)
  X _ := BI.emp
  Y _ := BI.emp
  Z c := StableHlo.held (c.tc : Thread nD τ) (ucRefs τ sig \ arrRefs (pcfgs (F := F) p).spec) V
  hentry c := by
    rw [Pipeline.ownSems0_none, Pipeline.prefHeld_of_none _ hK, StableHlo.held_sub_split (c.tc : Thread nD τ) (Pipeline.arrRefs_sub_ucRefs _ hu) V,
      ← Pipeline.arrays_held pcfgs adm pdats p kit c (hshare c) ((pdats p c).arrAt · 0) V (hA c)]
    iintro ⟨⟨⟨Ha, Hr⟩, HO⟩, -, -⟩
    imodintro
    isplitl [Ha]; · iexact Ha
    isplitr; · iempintro
    isplitl [HO]
    · unfold Pipeline.Dat.owesAt Pipeline.owesWithin Pipeline.Dat.bound owed
      rw [howed c 0, hrec c]
      icases HO with ⟨%W, %hW, HO⟩
      iexists W; isplitr; · ipureintro; exact fun q hq => Or.inl (hW q hq)
      iexact HO
    isplitr; · iempintro
    iexact Hr
  hin c := by
    rw [hΦ]
    iintro ⟨-, -, Hr⟩; iexact Hr
  hout c := by
    rw [Pipeline.ownSems0_none, hΦ]
    iintro Hr
    isplitr; · iempintro
    isplitr; · iempintro
    iexact Hr
  hexit c := by
    rw [StableHlo.held_sub_split (c.tc : Thread nD τ) (Pipeline.arrRefs_sub_ucRefs _ hu) (afterRegion (pdats p c) V),
      StableHlo.held_congr (c.tc : Thread nD τ) (S := ucRefs τ sig \ arrRefs (pcfgs (F := F) p).spec) (V := afterRegion (pdats p c) V) (V' := V) (Pipeline.afterRegion_off (pdats p c) V _),
      ← Pipeline.arrays_held pcfgs adm pdats p kit c (hshare c) ((pdats p c).arrAt · (pin pcfgs adm p).N) (afterRegion (pdats p c) V)
        (fun w => (Pipeline.afterRegion_arr (pdats p c) V kit.win.arr_inj w).symm)]
    iintro ⟨Ha, HO, -, Hr⟩
    imodintro
    isplitl [Ha Hr]
    · isplitl [Ha]; · iexact Ha
      iexact Hr
    unfold Pipeline.Dat.owesAt Pipeline.owesWithin Pipeline.Dat.bound owed
    rw [howed c (Fin.last _), hrec c]
    icases HO with ⟨%W, %hW, HO⟩
    iexists W; isplitr
    · ipureintro
      intro q hq
      rcases hW hq with h | ⟨w, s, h⟩
      · exact h
      · rw [h]; exact Nat.zero_le _
    iexact HO

theorem hΦ0 (V : Valuation τ sig (Elt F)) (n : ℕ) (c : Dev nD) (t) : (pd0 V n 0 c).Φ t = scopedRest (pin (pcfgs (F := F)) adm 0).spec c := by
  show scopedRest spec0 c = scopedRest (pin (pcfgs (F := F)) adm 0).spec c
  exact congrArg (fun s => scopedRest (τ := τ) (Ix := HIx 1) (Name := ℕ) (U := UU) (Lvl := ℕ) (Val := Elt F) s c) (rfl : spec0 = (pin (pcfgs (F := F)) adm 0).spec)
theorem hΦ2 (V : Valuation τ sig (Elt F)) (n : ℕ) (c : Dev nD) (t) : (pd2 V n 1 c).Φ t = scopedRest (pin (pcfgs (F := F)) adm 1).spec c := by
  show scopedRest spec2 c = scopedRest (pin (pcfgs (F := F)) adm 1).spec c
  exact congrArg (fun s => scopedRest (τ := τ) (Ix := HIx 1) (Name := ℕ) (U := UU) (Lvl := ℕ) (Val := Elt F) s c) (rfl : spec2 = (pin (pcfgs (F := F)) adm 1).spec)
theorem hA0 (V : Valuation τ sig (Elt F)) (n : ℕ) (c : Dev nD) (w) : (pd0 V n 0 c).arrAt w 0 = V (Proc.devRef .tc (arrRef (pin (pcfgs (F := F)) adm 0).spec w)) := by
  show (dat0 V n c).arrAt w 0 = _
  rfl
theorem hA2 (V : Valuation τ sig (Elt F)) (n : ℕ) (c : Dev nD) (w) : (pd2 V n 1 c).arrAt w 0 = V (Proc.devRef .tc (arrRef (pin (pcfgs (F := F)) adm 1).spec w)) := by
  show (dat2 V n c).arrAt w 0 = _
  rfl

/-- The first pipeline's region. -/
def seg0 (V : Valuation τ sig (Elt F)) (n : ℕ) : RegionSeg (pcfgs (F := F)) adm (pd0 V n) none (defs₀ (F := F)) V0 (K (F := F)).L (K (F := F)).lev 0 :=
  mkSeg 0 (pd0 V n) V n (launch0.toP) rfl (fun c => (body0 V n c).loose) (fun _ _ => rfl) (fun _ _ => rfl)
    (fun c => (dat0 V n c).share_full fun _ => rfl) (fun c t => hΦ0 V n c t) (fun c w => hA0 V n c w) (show ∀ w : Fin 7, (arrRef spec0 w).isScoped = false by decide)

/-- The last pipeline's region. -/
def seg2 (V : Valuation τ sig (Elt F)) (n : ℕ) : RegionSeg (pcfgs (F := F)) adm (pd2 V n) none (defs₀ (F := F)) V0 (K (F := F)).L (K (F := F)).lev 1 :=
  mkSeg 1 (pd2 V n) V n (launch2.toP) rfl (fun c => (body2 V n c).loose) (fun _ _ => rfl) (fun _ _ => rfl)
    (fun c => (dat2 V n c).share_full fun _ => rfl) (fun c t => hΦ2 V n c t) (fun c w => hA2 V n c w) (show ∀ w : Fin 4, (arrRef spec2 w).isScoped = false by decide)

end Cert.Proof

end
-- ==== Proof.Main.lean ====
/-
  @main: its host operations, the two pipelines and the SparseCore call between them, run from the launch's buffers to
  the buffers at a fold of valuations; and the whole program's run, every buffer at that fold.
-/
module

public import proofs.«01_k».proof.Proof.Sc
public import proofs.«01_k».proof.Proof.Segs

@[expose] public section

noncomputable section

namespace Cert.Proof

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf pin ucRefs afterRegion RegionSeg)

variable {F : FTy → Type} [FloatOps F]

local notation "𝕄" => MT nD τ sig (HIx 1) (Elt F) ℕ UU ℕ

/-! ## The launch's ghost state -/

/-- The call's handshakes' rounds. -/
abbrev EH : Emb UH 𝕄 := embL
/-- The pipelines' rounds. -/
def EP : Emb UP 𝕄 := (Emb.inl : Emb UP (UP × Counters)).trans embR
instance : (EP (F := F)).LandsIn (upEmb : UEmb _ 𝕄) := by unfold EP embR; infer_instance

/-- The pipelines' staging cells are distinct. -/
theorem phinj : Function.Injective (cellOf (nD := nD) (τ := τ) (pin (pcfgs (F := F)) adm)) := launch0.toP.cellOf_inj _

/-- The ghost state at launch. -/
def u₀ : UU := (initOf (K (F := F)).hsCells (K (F := F)).hsToks,
  (initOf (Pipeline.cells (pin (pcfgs (F := F)) adm) phinj) (Pipeline.launchToks (pin (pcfgs (F := F)) adm) phinj), 1))

/-- What the launch deals one device's pipelines. -/
def G (d : Dev nD) : sProp 𝕄 :=
  iprop((bigSep Finset.univ fun p : Fin 2 => Pipeline.cellsGhost (pin (pcfgs (F := F)) adm) EP p d)
    ∗ (bigSep Finset.univ fun p : Fin 2 => Pipeline.toksInit (pin (pcfgs (F := F)) adm) EP p d))

section
variable (E : (d : Dev nD) → Buf (Elt F) (tLoc d)) (I : (d : Dev nD) → Buf (Elt F) (iLoc d)) (O₀ : (d : Dev nD) → Buf (Elt F) (oLoc d))

omit [FloatOps F] in
theorem bigSep_emps {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P E I O₀).x q thr) := by
  unfold u₀ G
  iintro Hu
  ihave H := (ownU_pair (initOf (K (F := F)).hsCells (K (F := F)).hsToks)
    ((initOf (Pipeline.cells (pin (pcfgs (F := F)) adm) phinj) (Pipeline.launchToks (pin (pcfgs (F := F)) adm) phinj), 1) : UP × Counters)) $$ Hu
  icases H with ⟨HH, HR⟩
  have h2 : BI.own ((embR : Emb (UP × Counters) 𝕄) (initOf (Pipeline.cells (pin (pcfgs (F := F)) adm) phinj) (Pipeline.launchToks (pin (pcfgs (F := F)) adm) phinj), 1))
      ⊢ (iprop(BI.own (EP (initOf (Pipeline.cells (pin (pcfgs (F := F)) adm) phinj) (Pipeline.launchToks (pin (pcfgs (F := F)) adm) phinj)))
        ∗ BI.own (((Emb.inr : Emb Counters (UP × Counters)).trans (embR : Emb (UP × Counters) 𝕄)) 1)) : sProp 𝕄) := own_pair_emb (embR : Emb (UP × Counters) 𝕄) _ _
  ihave H2 := h2 $$ HR
  icases H2 with ⟨HP, -⟩
  imod (Pipeline.fund_ghost (pin (pcfgs (F := F)) adm) EP phinj) $$ HP with ⟨Hc, Ht⟩
  imodintro
  isplitl [HH]; · iexact HH
  isplitl [Hc Ht]
  · rw [bigSep_sep']
    isplitl [Hc]; · iexact Hc
    iexact Ht
  rw [show (bigSep Finset.univ fun thr : Thread nD τ => bigSep Finset.univ fun q : Fin 1 => (P (F := F) E I O₀).x q thr) = bigSep Finset.univ fun _ => iprop(emp) from
    bigSep_congr fun _ _ => bigSep_univ_of_subsingleton (0 : Fin 1), bigSep_emps]
  iempintro
end

/-! ## @main's steps, each as a valuation -/

local notation "Vl" => Valuation τ sig (Elt F)

def op1 : HloOp τ sig (Elt F) := StableHlo.reshape main_arg2 main_v0 (rfl : (.f32 : EltTy) = .f32) shapeCasts_S64_S1x64
def op2 : HloOp τ sig (Elt F) := StableHlo.reshape main_v1_0 main_v2 (rfl : (.i32 : EltTy) = .i32) shapeCasts_S16x1x576_S9216
def op3 : HloOp τ sig (Elt F) := StableHlo.reshape main_v2 main_v3 (rfl : (.i32 : EltTy) = .i32) shapeCasts_S9216_S32x3x96
def op4 : HloOp τ sig (Elt F) := StableHlo.reshape main_v4 main_v5 (rfl : (.f32 : EltTy) = .f32) shapeCasts_S32x3x96x128_S9216x128
def op5 : HloOp τ sig (Elt F) := StableHlo.reshape main_v5 main_v6 (rfl : (.f32 : EltTy) = .f32) shapeCasts_S9216x128_S16x576x128
def op6 : HloOp τ sig (Elt F) := StableHlo.reshape main_arg4 main_v7 (rfl : (.f32 : EltTy) = .f32) shapeCasts_S768_S768x1
def op7 : HloOp τ sig (Elt F) := StableHlo.reshape main_v1_0 main_v9 (rfl : (.i32 : EltTy) = .i32) shapeCasts_S16x1x576_S16x576
def op8 : HloOp τ sig (Elt F) := StableHlo.reshape main_v1_1 main_v10 (rfl : (.f32 : EltTy) = .f32) shapeCasts_S1x1_S_
def op9 : HloOp τ sig (Elt F) := StableHlo.nullary main_cst (constant S_ .f32 0x49100000#32)
def op10 : HloOp τ sig (Elt F) := StableHlo.binary main_v10 main_cst main_v11 (Host.divf : (⟨S_, .f32⟩ : BufTy).Contents (Elt F) → (⟨S_, .f32⟩ : BufTy).Contents (Elt F) → (⟨S_, .f32⟩ : BufTy).Contents (Elt F))

theorem op1_sub : (op1 (F := F)).bufs ⊆ ucRefs τ sig := (show ({Proc.devRef .tc main_arg2, Proc.devRef .tc main_v0} : Finset (DevRef τ sig)) ⊆ ucRefs τ sig by decide)
theorem op2_sub : (op2 (F := F)).bufs ⊆ ucRefs τ sig := (show ({Proc.devRef .tc main_v1_0, Proc.devRef .tc main_v2} : Finset (DevRef τ sig)) ⊆ ucRefs τ sig by decide)
theorem op3_sub : (op3 (F := F)).bufs ⊆ ucRefs τ sig := (show ({Proc.devRef .tc main_v2, Proc.devRef .tc main_v3} : Finset (DevRef τ sig)) ⊆ ucRefs τ sig by decide)
theorem op4_sub : (op4 (F := F)).bufs ⊆ ucRefs τ sig := (show ({Proc.devRef .tc main_v4, Proc.devRef .tc main_v5} : Finset (DevRef τ sig)) ⊆ ucRefs τ sig by decide)
theorem op5_sub : (op5 (F := F)).bufs ⊆ ucRefs τ sig := (show ({Proc.devRef .tc main_v5, Proc.devRef .tc main_v6} : Finset (DevRef τ sig)) ⊆ ucRefs τ sig by decide)
theorem op6_sub : (op6 (F := F)).bufs ⊆ ucRefs τ sig := (show ({Proc.devRef .tc main_arg4, Proc.devRef .tc main_v7} : Finset (DevRef τ sig)) ⊆ ucRefs τ sig by decide)
theorem op7_sub : (op7 (F := F)).bufs ⊆ ucRefs τ sig := (show ({Proc.devRef .tc main_v1_0, Proc.devRef .tc main_v9} : Finset (DevRef τ sig)) ⊆ ucRefs τ sig by decide)
theorem op8_sub : (op8 (F := F)).bufs ⊆ ucRefs τ sig := (show ({Proc.devRef .tc main_v1_1, Proc.devRef .tc main_v10} : Finset (DevRef τ sig)) ⊆ ucRefs τ sig by decide)
theorem op9_sub : (op9 (F := F)).bufs ⊆ ucRefs τ sig := (show ({Proc.devRef .tc main_cst} : Finset (DevRef τ sig)) ⊆ ucRefs τ sig by decide)
theorem op10_sub : (op10 (F := F)).bufs ⊆ ucRefs τ sig := (show ({Proc.devRef .tc main_v10, Proc.devRef .tc main_cst, Proc.devRef .tc main_v11} : Finset (DevRef τ sig)) ⊆ ucRefs τ sig by decide)

abbrev rT : DevRef τ sig := Proc.devRef .tc main_v1_2
abbrev rI : DevRef τ sig := Proc.devRef .tc main_v3
abbrev rO : DevRef τ sig := Proc.devRef .tc main_v4

/-- Up to the first pipeline. -/
def Va (U : Vl) : Vl := (op1 (F := F)).result U
/-- After the first pipeline. -/
def Vb (U : Vl) (d : Dev nD) : Vl := afterRegion (pd0 (Va U) 0 0 d) (Va U)
/-- At the SparseCore call. -/
def Vc (U : Vl) (d : Dev nD) : Vl := (op3 (F := F)).result ((op2 (F := F)).result (Vb U d))
/-- After the call. -/
def Vd (U : Vl) (d : Dev nD) : Vl := Function.update (Vc U d) rO (gath (Vc U d rT) (Vc U d rI))
/-- At the last pipeline. -/
def Ve (U : Vl) (d : Dev nD) : Vl := (op6 (F := F)).result ((op5 (F := F)).result ((op4 (F := F)).result (Vd U d)))
/-- After the last pipeline. -/
def Vf (U : Vl) (d : Dev nD) : Vl := afterRegion (pd2 (Ve U d) 1 1 d) (Ve U d)
/-- At the end. -/
def Vg (U : Vl) (d : Dev nD) : Vl :=
  (op10 (F := F)).result ((op9 (F := F)).result ((op8 (F := F)).result ((op7 (F := F)).result (Vf U d))))

/-- One host operation, from every unscoped buffer held. -/
theorem hlo_step (d : Dev nD) (op : HloOp τ sig (Elt F)) (hf : op.fresh = ∅) (hS : op.bufs ⊆ ucRefs τ sig) (hp) (U : Vl) (Q : PUnit → sProp 𝕄) :
    iprop((boundary (T d) ∗ StableHlo.held (T d) (ucRefs τ sig) U)
      ∗ ((boundary (T d) ∗ StableHlo.held (T d) (ucRefs τ sig) (op.result U)) -∗ Q ⟨⟩))
    ⊢ wp frame (wpE ((K (F := F)).defs (DD (F := F))) VV (T d) none) Set.univ (hlo hp op (fun _ => .ret ⟨⟩)) Q := by
  iintro ⟨H, HQ⟩
  iapply (StableHlo.wp_hlo_within VV (T d) none Set.univ hS (hf := hf)) $$ H
  iintro H
  rw [wp_ret]
  imodintro
  iapply HQ; iexact H

set_option maxHeartbeats 800000 in
/-- The first pipeline's call. -/
theorem region0 (d : Dev nD) (U : Vl) (n : ℕ) (Q : PUnit → sProp 𝕄) :
    iprop((iprop(boundary (T d) ∗ StableHlo.held (T d) (ucRefs τ sig) (afterRegion (pd0 U n 0 d) U) ∗ owed d n) -∗ Q ⟨⟩)
      ∗ boundary (T d) ∗ (StableHlo.held (T d) (ucRefs τ sig) U ∗ owed d n) ∗ levAts (K (F := F)).L (K (F := F)).lev
      ∗ Pipeline.cellsGhost (pin (pcfgs (F := F)) adm) EP 0 d ∗ Pipeline.toksInit (pin (pcfgs (F := F)) adm) EP 0 d)
    ⊢ wp frame (wpE ((K (F := F)).defs (DD (F := F))) VV (T d) none) Set.univ (Prog.lift (.customCall (SparseCore.inner (Pipeline.entry 0)) ())) Q := by
  have hl : Prog.lift (.customCall (SparseCore.inner (Pipeline.entry 0)) ()) = SparseCore.liftProg (Q := 1) (Prog.lift (.customCall (Pipeline.entry 0) ()) : Prog (TpuEff nD τ sig (Elt F) (ΛP (F := F)) .tc) PUnit) := rfl
  rw [hl]
  have h := RegionSeg.wp pcfgs adm (pd0 U n) none phinj EP defs₀ V0 (K (F := F)).L (K (F := F)).lev (seg0 U n) d none (fun _ h => by cases h) .ret Q
  have h := h.trans ((K (F := F)).wp_liftProg (DD (F := F)) VV (T d) Set.univ none _ Q)
  iintro ⟨HQ, H⟩
  iapply h
  isplitl [HQ]
  · iintro H; rw [wp_ret]; imodintro; iapply HQ; iexact H
  iexact H

set_option maxHeartbeats 800000 in
/-- The last pipeline's call. -/
theorem region2 (d : Dev nD) (U : Vl) (n : ℕ) (Q : PUnit → sProp 𝕄) :
    iprop((iprop(boundary (T d) ∗ StableHlo.held (T d) (ucRefs τ sig) (afterRegion (pd2 U n 1 d) U) ∗ owed d n) -∗ Q ⟨⟩)
      ∗ boundary (T d) ∗ (StableHlo.held (T d) (ucRefs τ sig) U ∗ owed d n) ∗ levAts (K (F := F)).L (K (F := F)).lev
      ∗ Pipeline.cellsGhost (pin (pcfgs (F := F)) adm) EP 1 d ∗ Pipeline.toksInit (pin (pcfgs (F := F)) adm) EP 1 d)
    ⊢ wp frame (wpE ((K (F := F)).defs (DD (F := F))) VV (T d) none) Set.univ (Prog.lift (.customCall (SparseCore.inner (Pipeline.entry 1)) ())) Q := by
  have hl : Prog.lift (.customCall (SparseCore.inner (Pipeline.entry 1)) ()) = SparseCore.liftProg (Q := 1) (Prog.lift (.customCall (Pipeline.entry 1) ()) : Prog (TpuEff nD τ sig (Elt F) (ΛP (F := F)) .tc) PUnit) := rfl
  rw [hl]
  have h := RegionSeg.wp pcfgs adm (pd2 U n) none phinj EP defs₀ V0 (K (F := F)).L (K (F := F)).lev (seg2 U n) d none (fun _ h => by cases h) .ret Q
  have h := h.trans ((K (F := F)).wp_liftProg (DD (F := F)) VV (T d) Set.univ none _ Q)
  iintro ⟨HQ, H⟩
  iapply h
  isplitl [HQ]
  · iintro H; rw [wp_ret]; imodintro; iapply HQ; iexact H
  iexact H

/-- The TensorCore's handshake state: what it owes, and the rest. -/
theorem tcSt_split (d : Dev nD) (n : ℕ) : (K (F := F)).tcSt EH d n ⊢ (iprop(owed d n ∗ (owed d n -∗ (K (F := F)).tcSt EH d n)) : sProp 𝕄) := by
  unfold SparseCore.Cfg.tcSt owed
  iintro ⟨HO, H⟩
  isplitl [HO]; · iexact HO
  iintro HO
  isplitl [HO]; · iexact HO
  iexact H

/-- The three buffers of the call. -/
def trio : Finset (DevRef τ sig) := {rI, rT, rO}

theorem trio_sub : trio ⊆ ucRefs τ sig := by decide

omit [FloatOps F] in
theorem trio_eq (d : Dev nD) (U : Vl) : (StableHlo.held (T d) trio U : sProp 𝕄)
    = iprop((iLoc d ↦{fullShare} U rI) ∗ (tLoc d ↦{fullShare} U rT) ∗ (oLoc d ↦{fullShare} U rO)) := by
  unfold StableHlo.held trio
  rw [SparseCore.bigSep_insert' (by decide), SparseCore.bigSep_insert' (by decide), bigSep_singleton]

variable (m : (ℓ : Loc nD τ sig) → Buf (Elt F) ℓ) (ρ : Dev nD → PrngReg)

/-- A device's buffers at launch. -/
abbrev U0 (d : Dev nD) : Vl := fun b => m (d, b)

/-- The call's payloads at this launch. -/
abbrev PP : (K (F := F)).Pay (nD := nD) (Val := Elt F) (Name := ℕ) (U := UU) :=
  P (fun d => Vc (U0 m d) d rT) (fun d => Vc (U0 m d) d rI) (fun d => Vc (U0 m d) d rO)

/-- The SparseCore call. -/
theorem sc_step (κ : GSem nD τ sig → ℕ) (d : Dev nD) (Q : PUnit → sProp 𝕄) :
    iprop((K (F := F)).ctx EH (PP m) κ ∗ (K (F := F)).tcSt EH d 0 ∗ StableHlo.held (T d) (ucRefs τ sig) (Vc (U0 m d) d)
      ∗ (((K (F := F)).tcSt EH d 1 ∗ StableHlo.held (T d) (ucRefs τ sig) (Vd (U0 m d) d)) -∗ Q ⟨⟩))
    ⊢ wp frame (wpE ((K (F := F)).defs (DD (F := F))) VV (T d) none) Set.univ ((K (F := F)).run d 0) Q := by
  rw [StableHlo.held_sub_split (T d) trio_sub (Vc (U0 m d) d), StableHlo.held_sub_split (T d) trio_sub (Vd (U0 m d) d), trio_eq, trio_eq,
    StableHlo.held_congr (T d) (S := ucRefs τ sig \ trio) (V := Vd (U0 m d) d) (V' := Vc (U0 m d) d) (fun b hb => Function.update_of_ne
      (fun h => (Finset.mem_sdiff.1 hb).2 (by rw [h]; decide)) _ _)]
  iintro ⟨Hctx, Hst, ⟨H3, Hr⟩, HQ⟩
  iapply ((K (F := F)).wp_run (DD (F := F)) VV (EH := EH) (P := PP m) κ d 0)
  isplitl [Hctx]; · iexact Hctx
  isplitl [Hst]; · iexact Hst
  isplitl [H3]
  · rw [st_eq]; iexact H3
  iintro ⟨Hst, H3⟩
  ihave H3 := (Entails.of_eq (dn_eq _ _ _ d)) $$ H3
  iapply HQ
  isplitl [Hst]; · iexact Hst
  isplitl [H3]
  · rw [show Vd (U0 m d) d rO = gath (Vc (U0 m d) d rT) (Vc (U0 m d) d rI) from Function.update_self ..,
      show Vd (U0 m d) d rI = Vc (U0 m d) d rI from Function.update_of_ne (by decide) _ _, show Vd (U0 m d) d rT = Vc (U0 m d) d rT from Function.update_of_ne (by decide) _ _]
    iexact H3
  iexact Hr

/-- What the TensorCore ends with: every unscoped buffer at the fold. -/
def FIN (d : Dev nD) : sProp 𝕄 := StableHlo.held (T d) (ucRefs τ sig) (Vg (U0 m d) d)

/-- @main on a device's TensorCore. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (DD (F := F))) VV (T d) none) Set.univ (main d)
          fun _ => iprop((K (F := F)).tcSt EH d 1 ∗ FIN m d ∗ (K (F := F)).tcEnd d) := by
  unfold SparseCore.Cfg.tcRes SparseCore.Cfg.tcEnd G FIN
  rw [Pipeline.unscopedBufs_held d (U0 m d)]
  rw [Ring.bigSep_fin2, Ring.bigSep_fin2]
  simp only [main, wp_bind, wp_pure]
  iintro ⟨#Hctx, Hst, ⟨Hb, Hh, Hts, -⟩, ⟨Hc0, Hc1⟩, ⟨Ht0, Ht1⟩⟩
  ihave #Hlev := ((K (F := F)).ctx_levAts (EH := EH) (P := PP m) κ) $$ Hctx
  iapply (hlo_step d op1 rfl op1_sub rfl (U0 m d))
  isplitl [Hb Hh]; · (isplitl [Hb]; · iexact Hb); iexact Hh
  iintro ⟨Hb, Hh⟩
  ihave Hs := (tcSt_split d 0) $$ Hst
  icases Hs with ⟨HO, Hst⟩
  iapply (region0 d (Va (U0 m d)) 0)
  isplitr [Hb Hh HO Hc0 Ht0]; swap
  · isplitl [Hb]; · iexact Hb
    isplitl [Hh HO]
    · isplitl [Hh]; · iexact Hh
      iexact HO
    isplitr; · iexact Hlev
    isplitl [Hc0]; · iexact Hc0
    iexact Ht0
  iintro ⟨Hb, Hh, HO⟩
  iapply (hlo_step d op2 rfl op2_sub rfl (Vb (U0 m d) d))
  isplitl [Hb Hh]; · (isplitl [Hb]; · iexact Hb); iexact Hh
  iintro ⟨Hb, Hh⟩
  iapply (hlo_step d op3 rfl op3_sub rfl _)
  isplitl [Hb Hh]; · (isplitl [Hb]; · iexact Hb); iexact Hh
  iintro ⟨Hb, Hh⟩
  iapply (sc_step m κ d)
  isplitr; · iexact Hctx
  isplitl [HO Hst]
  · iapply Hst; iexact HO
  isplitl [Hh]; · iexact Hh
  iintro ⟨Hst, Hh⟩
  iapply (hlo_step d op4 rfl op4_sub rfl (Vd (U0 m d) d))
  isplitl [Hb Hh]; · (isplitl [Hb]; · iexact Hb); iexact Hh
  iintro ⟨Hb, Hh⟩
  iapply (hlo_step d op5 rfl op5_sub rfl _)
  isplitl [Hb Hh]; · (isplitl [Hb]; · iexact Hb); iexact Hh
  iintro ⟨Hb, Hh⟩
  iapply (hlo_step d op6 rfl op6_sub rfl _)
  isplitl [Hb Hh]; · (isplitl [Hb]; · iexact Hb); iexact Hh
  iintro ⟨Hb, Hh⟩
  ihave Hs := (tcSt_split d 1) $$ Hst
  icases Hs with ⟨HO, Hst⟩
  iapply (region2 d (Ve (U0 m d) d) 1)
  isplitr [Hb Hh HO Hc1 Ht1]; swap
  · isplitl [Hb]; · iexact Hb
    isplitl [Hh HO]
    · isplitl [Hh]; · iexact Hh
      iexact HO
    isplitr; · iexact Hlev
    isplitl [Hc1]; · iexact Hc1
    iexact Ht1
  iintro ⟨Hb, Hh, HO⟩
  iapply (hlo_step d op7 rfl op7_sub rfl (Vf (U0 m d) d))
  isplitl [Hb Hh]; · (isplitl [Hb]; · iexact Hb); iexact Hh
  iintro ⟨Hb, Hh⟩
  iapply (hlo_step d op8 rfl op8_sub rfl _)
  isplitl [Hb Hh]; · (isplitl [Hb]; · iexact Hb); iexact Hh
  iintro ⟨Hb, Hh⟩
  iapply (hlo_step d op9 rfl op9_sub rfl _)
  isplitl [Hb Hh]; · (isplitl [Hb]; · iexact Hb); iexact Hh
  iintro ⟨Hb, Hh⟩
  iapply (hlo_step d op10 rfl op10_sub rfl _)
  isplitl [Hb Hh]; · (isplitl [Hb]; · iexact Hb); iexact Hh
  iintro ⟨Hb, Hh⟩
  imodintro
  isplitl [HO Hst]
  · iapply Hst; iexact HO
  isplitl [Hh]; · iexact Hh
  isplitl [Hb] <;> iassumption

/-! ## The program's run -/

/-- Every unscoped buffer of a device at the fold. -/
def fq (d : Dev nD) (s' : Phys nD τ sig (Elt F)) : Prop := ∀ b ∈ ucRefs τ sig, s'.mem.mem (d, b) = Vg (U0 m d) d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (ucRefs τ sig)) $$ [HSI H]
  · isplitl [HSI]; · iexact HSI
    iexact H
  ipureintro
  exact h

def QC : PUnit × MemSt nD τ sig (Elt F) → Prop :=
  fun r => (∀ d, ∀ b ∈ ucRefs τ sig, r.2.mem (d, b) = Vg (U0 m d) d b) ∧ r.2.sem = fun _ => 0

theorem run_main [∀ e, Nonempty (Elt F e)] (hI : ∀ d x, (Vc (U0 m d) d rI x : BitVec 32).toNat < 8192) :
    θ_run (defs (F := F)) (threads (F := F)) ⟨m, fun _ => 0, ρ⟩ (QC m) :=
  SparseCore.Cfg.θ_run_sc_quiescent (K := K (F := F)) (D := DD (F := F)) (𝒱 := VV) (EH := EH) (P := PP m) (A := ∅) scFacts v00
    (fun q hq => match q with | 0 => nomatch hq)
    (fun q _ => match q with | 0 => tileObl _ _ _ hI)
    (fun q _ => match q with | 0 => SparseCore.Cfg.VecSplit.of_plain (vecSplit _ _ _))
    m ρ main (fun d => G (F := F) d) (FIN m) (u₀ (F := F)) (sep_elim_left.trans (hu₀ _ _ _)) (hmain m ρ) (fq m) (hfin m) (QC m) (fun _ h hz => ⟨h, hz⟩)

end Cert.Proof

end
-- ==== Proof.Arr.lean ====
/-
  The arrays the two pipelines leave, each as one function of the contents at the pipeline's entry, and the blocks they
  read, at an element.
-/
module

public import proofs.«01_k».proof.Proof.Main
public import Idealize.ShloMosaic.Lib.Pipeline.Value
public import Idealize.ShloMosaic.Lib.ValueLayout

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.ShloMosaic.SparseCore (T)
open Idealize.ShloMosaic.Pipeline (Dat Cfg Window cellOf pin ucRefs afterRegion)

variable {F : FTy → Type} [FloatOps F]

/-! ## The windows' index maps -/

theorem ixm0_0 : ∀ t : Fin grid0.N, win0_0.index t 0 = t.val ∧ win0_0.index t 1 = 0 ∧ win0_0.index t 2 = 0 := by decide +kernel
theorem ixm0_1 : ∀ t : Fin grid0.N, win0_1.index t 0 = 0 ∧ win0_1.index t 1 = 0 := by decide +kernel
theorem ixm0_2 : ∀ t : Fin grid0.N, win0_2.index t 0 = 0 ∧ win0_2.index t 1 = 0 := by decide +kernel
theorem ixm0_3 : ∀ t : Fin grid0.N, win0_3.index t 0 = 0 ∧ win0_3.index t 1 = 0 := by decide +kernel
theorem ixm0_4 : ∀ t : Fin grid0.N, win0_4.index t 0 = t.val ∧ win0_4.index t 1 = 0 ∧ win0_4.index t 2 = 0 := by decide +kernel
theorem ixm0_5 : ∀ t : Fin grid0.N, win0_5.index t 0 = 0 ∧ win0_5.index t 1 = 0 := by decide +kernel
theorem ixm0_6 : ∀ t : Fin grid0.N, win0_6.index t 0 = 0 ∧ win0_6.index t 1 = 0 := by decide +kernel
theorem ixm2_0 : ∀ t : Fin grid2.N, win2_0.index t 0 = t.val ∧ win2_0.index t 1 = 0 ∧ win2_0.index t 2 = 0 := by decide +kernel
theorem ixm2_1 : ∀ t : Fin grid2.N, win2_1.index t 0 = 0 ∧ win2_1.index t 1 = 0 := by decide +kernel
theorem ixm2_2 : ∀ t : Fin grid2.N, win2_2.index t 0 = 0 ∧ win2_2.index t 1 = 0 := by decide +kernel
theorem ixm2_3 : ∀ t : Fin grid2.N, win2_3.index t 0 = t.val ∧ win2_3.index t 1 = 0 ∧ win2_3.index t 2 = 0 := by decide +kernel

/-- The last pipeline's point numbered `n`. -/
def pnt2 (n : ℕ) : Fin cfg2.N := ⟨n % 16, show n % 16 < grid2.N by rw [N_2]; exact Nat.mod_lt _ (by decide)⟩

theorem pnt2_val (t : Fin cfg2.N) : pnt2 t.val = t := by
  have h : t.val < grid2.N := t.isLt
  rw [N_2] at h
  exact Fin.ext (Nat.mod_eq_of_lt h)

theorem t_lt2 (t : Fin cfg2.N) : t.val < 16 := by
  have h : t.val < grid2.N := t.isLt
  rwa [N_2] at h

variable (V : Valuation τ sig (Elt F))

/-! ## The blocks read -/

theorem blk0_0_apply (t : Fin cfg0.N) (k : Fin 768) (n : Fin 576) :
    blk0 V 0 t (ix3 (n0 := 1) 0 k n) = (V (Proc.devRef .tc main_arg0) : S16x768x576.Idx → F .f32) (ix3 ⟨t.val, t_lt t⟩ k n) := by
  refine congrArg (V (Proc.devRef .tc main_arg0) : S16x768x576.Idx → F .f32) (funext fun a => Fin.ext ?_)
  have h := ixm0_0 t
  match a with
  | ⟨0, _⟩ => show win0_0.index t 0 * 1 + 1 * 0 = t.val; omega
  | ⟨1, _⟩ => show win0_0.index t 1 * 768 + 1 * k.val = k.val; omega
  | ⟨2, _⟩ => show win0_0.index t 2 * 576 + 1 * n.val = n.val; omega

theorem blk0_1_eq (t : Fin cfg0.N) : blk0 V 1 t = (V (Proc.devRef .tc main_arg1) : S768x64.Idx → F .f32) := by
  funext j
  refine congrArg (V (Proc.devRef .tc main_arg1) : S768x64.Idx → F .f32) (funext fun a => Fin.ext ?_)
  have h := ixm0_1 t
  match a with
  | ⟨0, _⟩ => show win0_1.index t 0 * 768 + 1 * (j 0).val = (j 0).val; omega
  | ⟨1, _⟩ => show win0_1.index t 1 * 64 + 1 * (j 1).val = (j 1).val; omega

theorem blk0_2_eq (t : Fin cfg0.N) : blk0 V 2 t = (V (Proc.devRef .tc main_v0) : S1x64.Idx → F .f32) := by
  funext j
  refine congrArg (V (Proc.devRef .tc main_v0) : S1x64.Idx → F .f32) (funext fun a => Fin.ext ?_)
  have h := ixm0_2 t
  match a with
  | ⟨0, _⟩ => show win0_2.index t 0 * 1 + 1 * (j 0).val = (j 0).val; omega
  | ⟨1, _⟩ => show win0_2.index t 1 * 64 + 1 * (j 1).val = (j 1).val; omega

theorem blk0_3_eq (t : Fin cfg0.N) : blk0 V 3 t = (V (Proc.devRef .tc main_arg5) : S8192x64.Idx → F .f32) := by
  funext j
  refine congrArg (V (Proc.devRef .tc main_arg5) : S8192x64.Idx → F .f32) (funext fun a => Fin.ext ?_)
  have h := ixm0_3 t
  match a with
  | ⟨0, _⟩ => show win0_3.index t 0 * 8192 + 1 * (j 0).val = (j 0).val; omega
  | ⟨1, _⟩ => show win0_3.index t 1 * 64 + 1 * (j 1).val = (j 1).val; omega

theorem blk2_0_apply (t : Fin cfg2.N) (n : Fin 576) (l : Fin 128) :
    blk2 V 0 t (ix3 (n0 := 1) 0 n l) = (V (Proc.devRef .tc main_v6) : S16x576x128.Idx → F .f32) (ix3 ⟨t.val, t_lt2 t⟩ n l) := by
  refine congrArg (V (Proc.devRef .tc main_v6) : S16x576x128.Idx → F .f32) (funext fun a => Fin.ext ?_)
  have h := ixm2_0 t
  match a with
  | ⟨0, _⟩ => show win2_0.index t 0 * 1 + 1 * 0 = t.val; omega
  | ⟨1, _⟩ => show win2_0.index t 1 * 576 + 1 * n.val = n.val; omega
  | ⟨2, _⟩ => show win2_0.index t 2 * 128 + 1 * l.val = l.val; omega

theorem blk2_1_eq (t : Fin cfg2.N) : blk2 V 1 t = (V (Proc.devRef .tc main_arg3) : S64x768.Idx → F .f32) := by
  funext j
  refine congrArg (V (Proc.devRef .tc main_arg3) : S64x768.Idx → F .f32) (funext fun a => Fin.ext ?_)
  have h := ixm2_1 t
  match a with
  | ⟨0, _⟩ => show win2_1.index t 0 * 64 + 1 * (j 0).val = (j 0).val; omega
  | ⟨1, _⟩ => show win2_1.index t 1 * 768 + 1 * (j 1).val = (j 1).val; omega

theorem blk2_2_eq (t : Fin cfg2.N) : blk2 V 2 t = (V (Proc.devRef .tc main_v7) : S768x1.Idx → F .f32) := by
  funext j
  refine congrArg (V (Proc.devRef .tc main_v7) : S768x1.Idx → F .f32) (funext fun a => Fin.ext ?_)
  have h := ixm2_2 t
  match a with
  | ⟨0, _⟩ => show win2_2.index t 0 * 768 + 1 * (j 0).val = (j 0).val; omega
  | ⟨1, _⟩ => show win2_2.index t 1 * 1 + 1 * (j 1).val = (j 1).val; omega

/-! ## The arrays left -/

/-- The codes' array. -/
def codesG : S16x1x576.Idx → BitVec 32 := fun i => (asgAt V (pnt (i 0).val)).2 (ix3 0 0 (i 2))

theorem codes_arr (n : ℕ) (c : Dev nD) : (dat0 V n c).arrAt 4 cfg0.N = (codesG V : S16x1x576.Idx → BitVec 32) := by
  refine (dat0 V n c).arrAt_eq_of_cover 4 (codesG V : S16x1x576.Idx → BitVec 32) (fun t _ => ?_) fun i => ?_
  · funext j
    show (asgAt V t).2 j = (asgAt V (pnt (win0_4.index t 0 * 1 + 1 * (j 0).val))).2 (ix3 0 0 ⟨win0_4.index t 2 * 576 + 1 * (j 2).val, _⟩)
    have h := ixm0_4 t
    have hj : (j 0).val < 1 := (j 0).isLt
    have hj1 : (j 1).val < 1 := (j 1).isLt
    rw [show win0_4.index t 0 * 1 + 1 * (j 0).val = t.val by omega, pnt_val]
    refine congrArg (asgAt V t).2 (funext fun a => Fin.ext ?_)
    match a with
    | ⟨0, _⟩ => show (j 0).val = 0; omega
    | ⟨1, _⟩ => show (j 1).val = 0; omega
    | ⟨2, _⟩ => show (j 2).val = win0_4.index t 2 * 576 + 1 * (j 2).val; omega
  · have h0 : (i 0).val < 16 := (i 0).isLt
    have h1 : (i 1).val < 1 := (i 1).isLt
    have h2 : (i 2).val < 576 := (i 2).isLt
    refine ⟨pnt (i 0).val, flush0_4 _, ?_⟩
    show i ∈ ((View.whole main_v1_0).slice (win0_4.rect (pnt (i 0).val))).set
    rw [View.set_slice_whole, Rect.mem_set_unit]
    have h := ixm0_4 (pnt (i 0).val)
    have hp : (pnt (i 0).val).val = (i 0).val := Nat.mod_eq_of_lt h0
    intro a
    match a with
    | ⟨0, _⟩ => show win0_4.index (pnt (i 0).val) 0 * 1 ≤ (i 0).val ∧ (i 0).val < win0_4.index (pnt (i 0).val) 0 * 1 + 1; omega
    | ⟨1, _⟩ => show win0_4.index (pnt (i 0).val) 1 * 1 ≤ (i 1).val ∧ (i 1).val < win0_4.index (pnt (i 0).val) 1 * 1 + 1; omega
    | ⟨2, _⟩ => show win0_4.index (pnt (i 0).val) 2 * 576 ≤ (i 2).val ∧ (i 2).val < win0_4.index (pnt (i 0).val) 2 * 576 + 576; omega

theorem loss_arr (n : ℕ) (c : Dev nD) : (dat0 V n c).arrAt 5 cfg0.N = (fun _ => lossAt V 15 : S1x1.Idx → F .f32) := by
  refine (dat0 V n c).arrAt_eq_of_cover 5 (fun _ => lossAt V 15 : S1x1.Idx → F .f32) (fun t ht => ?_) fun i => ?_
  · funext j
    show lossAt V t.val = lossAt V 15
    have := (flush0_5 t).1 ht
    have := t_lt t
    congr 1
    omega
  · have h0 : (i 0).val < 1 := (i 0).isLt
    have h1 : (i 1).val < 1 := (i 1).isLt
    refine ⟨pnt 15, (flush0_5 _).2 rfl, ?_⟩
    show i ∈ ((View.whole main_v1_1).slice (win0_5.rect (pnt 15))).set
    rw [View.set_slice_whole, Rect.mem_set_unit]
    have h := ixm0_5 (pnt 15)
    intro a
    match a with
    | ⟨0, _⟩ => show win0_5.index (pnt 15) 0 * 1 ≤ (i 0).val ∧ (i 0).val < win0_5.index (pnt 15) 0 * 1 + 1; omega
    | ⟨1, _⟩ => show win0_5.index (pnt 15) 1 * 1 ≤ (i 1).val ∧ (i 1).val < win0_5.index (pnt 15) 1 * 1 + 1; omega

theorem cbp_arr (n : ℕ) (c : Dev nD) : (dat0 V n c).arrAt 6 cfg0.N = (cbpOf (V (Proc.devRef .tc main_arg5)) : S8192x128.Idx → F .f32) := by
  refine (dat0 V n c).arrAt_eq_of_cover 6 (cbpOf (V (Proc.devRef .tc main_arg5)) : S8192x128.Idx → F .f32) (fun t _ => ?_) fun i => ?_
  · funext j
    show cbpOf (blk0 V 3 t) j = _
    rw [blk0_3_eq]
    have h := ixm0_6 t
    refine congrArg (cbpOf (V (Proc.devRef .tc main_arg5)) : S8192x128.Idx → F .f32) (funext fun a => Fin.ext ?_)
    match a with
    | ⟨0, _⟩ => show (j 0).val = win0_6.index t 0 * 8192 + 1 * (j 0).val; omega
    | ⟨1, _⟩ => show (j 1).val = win0_6.index t 1 * 128 + 1 * (j 1).val; omega
  · have h0 : (i 0).val < 8192 := (i 0).isLt
    have h1 : (i 1).val < 128 := (i 1).isLt
    refine ⟨pnt 15, (flush0_6 _).2 rfl, ?_⟩
    show i ∈ ((View.whole main_v1_2).slice (win0_6.rect (pnt 15))).set
    rw [View.set_slice_whole, Rect.mem_set_unit]
    have h := ixm0_6 (pnt 15)
    intro a
    match a with
    | ⟨0, _⟩ => show win0_6.index (pnt 15) 0 * 8192 ≤ (i 0).val ∧ (i 0).val < win0_6.index (pnt 15) 0 * 8192 + 8192; omega
    | ⟨1, _⟩ => show win0_6.index (pnt 15) 1 * 128 ≤ (i 1).val ∧ (i 1).val < win0_6.index (pnt 15) 1 * 128 + 128; omega

/-- The result's array. -/
def outG : S16x768x576.Idx → F .f32 := fun i =>
  k2_pay1 (blk2 V 0 (pnt2 (i 0).val)) (blk2 V 1 (pnt2 (i 0).val)) (blk2 V 2 (pnt2 (i 0).val)) (ix3 0 (i 1) (i 2))

theorem out_arr (n : ℕ) (c : Dev nD) : (dat2 V n c).arrAt 3 cfg2.N = (outG V : S16x768x576.Idx → F .f32) := by
  refine (dat2 V n c).arrAt_eq_of_cover 3 (outG V : S16x768x576.Idx → F .f32) (fun t _ => ?_) fun i => ?_
  · funext j
    have h := ixm2_3 t
    have hj : (j 0).val < 1 := (j 0).isLt
    have e : ∀ x y : Fin cfg2.N, x = y → ∀ i i' : S1x768x576.Idx, i = i' → k2_pay1 (blk2 V 0 x) (blk2 V 1 x) (blk2 V 2 x) i = k2_pay1 (blk2 V 0 y) (blk2 V 1 y) (blk2 V 2 y) i' := by
      rintro x _ rfl i _ rfl; rfl
    refine e t _ ?_ j _ (funext fun a => Fin.ext ?_)
    · show t = pnt2 (win2_3.index t 0 * 1 + 1 * (j 0).val)
      rw [show win2_3.index t 0 * 1 + 1 * (j 0).val = t.val by omega, pnt2_val]
    match a with
    | ⟨0, _⟩ => show (j 0).val = 0; omega
    | ⟨1, _⟩ => show (j 1).val = win2_3.index t 1 * 768 + 1 * (j 1).val; omega
    | ⟨2, _⟩ => show (j 2).val = win2_3.index t 2 * 576 + 1 * (j 2).val; omega
  · have h0 : (i 0).val < 16 := (i 0).isLt
    have h1 : (i 1).val < 768 := (i 1).isLt
    have h2 : (i 2).val < 576 := (i 2).isLt
    refine ⟨pnt2 (i 0).val, flush2_3 _, ?_⟩
    show i ∈ ((View.whole main_v8).slice (win2_3.rect (pnt2 (i 0).val))).set
    rw [View.set_slice_whole, Rect.mem_set_unit]
    have h := ixm2_3 (pnt2 (i 0).val)
    have hp : (pnt2 (i 0).val).val = (i 0).val := Nat.mod_eq_of_lt h0
    intro a
    match a with
    | ⟨0, _⟩ => show win2_3.index (pnt2 (i 0).val) 0 * 1 ≤ (i 0).val ∧ (i 0).val < win2_3.index (pnt2 (i 0).val) 0 * 1 + 1; omega
    | ⟨1, _⟩ => show win2_3.index (pnt2 (i 0).val) 1 * 768 ≤ (i 1).val ∧ (i 1).val < win2_3.index (pnt2 (i 0).val) 1 * 768 + 768; omega
    | ⟨2, _⟩ => show win2_3.index (pnt2 (i 0).val) 2 * 576 ≤ (i 2).val ∧ (i 2).val < win2_3.index (pnt2 (i 0).val) 2 * 576 + 576; omega

end Cert.Proof

end
-- ==== Proof.Ends.lean ====
/-
  What the buffers hold at the end of the run, from what they hold at its start: the arguments as they were, and the
  three results as functions of the arrays the pipelines and the SparseCore call leave.
-/
module

public import proofs.«01_k».proof.Proof.Arr

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.ShloMosaic.SparseCore (T)
open Idealize.ShloMosaic.Pipeline (Dat Cfg Window cellOf pin ucRefs afterRegion)
open Idealize.ShloMosaic.StableHlo

variable {F : FTy → Type} [FloatOps F]

local notation "Vl" => Valuation τ sig (Elt F)

variable (U : Valuation τ sig (Elt F)) (d : Dev nD)

/-- The pipelines' arrays are distinct. -/
theorem inj0 : Function.Injective (Pipeline.arrRef spec0) := winFacts0.arr_inj
@[inherit_doc inj0]
theorem inj2 : Function.Injective (Pipeline.arrRef spec2) := winFacts2.arr_inj

/-! ## Buffers no step writes -/

theorem Va_of_ne {r : Ref sig .tc} (h : r ≠ main_v0) : Va U (Proc.devRef .tc r) = U (Proc.devRef .tc r) := reshape_result_ne _ _ _ _ _ _ _ h

theorem Vb_keep {r : Ref sig .tc} (h : ∀ w, Pipeline.arrRef spec0 w = r → (win0 w).isOut = false) :
    Vb U d (Proc.devRef .tc r) = Va U (Proc.devRef .tc r) :=
  Pipeline.afterRegion_keeps (pd0 (Va U) 0 0 d) (Va U) inj0 (fun _ => rfl) r h

theorem Vc_of_ne {r : Ref sig .tc} (h : r ≠ main_v2) (h' : r ≠ main_v3) : Vc U d (Proc.devRef .tc r) = Vb U d (Proc.devRef .tc r) :=
  (reshape_result_ne _ _ _ _ _ _ _ h').trans (reshape_result_ne _ _ _ _ _ _ _ h)

theorem Vd_of_ne {r : Ref sig .tc} (h : r ≠ main_v4) : Vd U d (Proc.devRef .tc r) = Vc U d (Proc.devRef .tc r) :=
  Function.update_of_ne (fun e => h (Proc.devRef_injective _ e)) _ _

theorem Ve_of_ne {r : Ref sig .tc} (h : r ≠ main_v5) (h' : r ≠ main_v6) (h'' : r ≠ main_v7) :
    Ve U d (Proc.devRef .tc r) = Vd U d (Proc.devRef .tc r) :=
  (reshape_result_ne _ _ _ _ _ _ _ h'').trans ((reshape_result_ne _ _ _ _ _ _ _ h').trans (reshape_result_ne _ _ _ _ _ _ _ h))

theorem Vf_keep {r : Ref sig .tc} (h : ∀ w, Pipeline.arrRef spec2 w = r → (win2 w).isOut = false) :
    Vf U d (Proc.devRef .tc r) = Ve U d (Proc.devRef .tc r) :=
  Pipeline.afterRegion_keeps (pd2 (Ve U d) 1 1 d) (Ve U d) inj2 (fun _ => rfl) r h

theorem Vg_of_ne {r : Ref sig .tc} (h : r ≠ main_v9) (h' : r ≠ main_v10) (h'' : r ≠ main_cst) (h3 : r ≠ main_v11) :
    Vg U d (Proc.devRef .tc r) = Vf U d (Proc.devRef .tc r) :=
  (binary_result_ne _ _ _ _ _ _ _ _ h3).trans ((nullary_result_ne _ _ _ _ h'').trans
    ((reshape_result_ne _ _ _ _ _ _ _ h').trans (reshape_result_ne _ _ _ _ _ _ _ h)))

theorem Ve_arg3 : Ve U d (Proc.devRef .tc main_arg3) = U (Proc.devRef .tc main_arg3) := by
  rw [Ve_of_ne U d (by decide) (by decide) (by decide), Vd_of_ne U d (by decide), Vc_of_ne U d (by decide) (by decide),
    Vb_keep U d (by decide), Va_of_ne U (by decide)]

/-- The arguments are as they were. -/
theorem Vg_arg {r : Ref sig .tc} (h : r ∈ [main_arg0, main_arg1, main_arg2, main_arg3, main_arg4, main_arg5]) :
    Vg U d (Proc.devRef .tc r) = U (Proc.devRef .tc r) := by
  have k0 : ∀ r ∈ [main_arg0, main_arg1, main_arg2, main_arg3, main_arg4, main_arg5], ∀ w, Pipeline.arrRef spec0 w = r → (win0 w).isOut = false := by decide
  have k2 : ∀ r ∈ [main_arg0, main_arg1, main_arg2, main_arg3, main_arg4, main_arg5], ∀ w, Pipeline.arrRef spec2 w = r → (win2 w).isOut = false := by decide
  have kn : ∀ r ∈ [main_arg0, main_arg1, main_arg2, main_arg3, main_arg4, main_arg5], ∀ s ∈ [main_v0, main_v2, main_v3, main_v4, main_v5, main_v6, main_v7, main_v9, main_v10, main_cst, main_v11], r ≠ s := by decide
  have n := kn r h
  rw [Vg_of_ne U d (n _ (by decide)) (n _ (by decide)) (n _ (by decide)) (n _ (by decide)), Vf_keep U d (k2 r h),
    Ve_of_ne U d (n _ (by decide)) (n _ (by decide)) (n _ (by decide)), Vd_of_ne U d (n _ (by decide)),
    Vc_of_ne U d (n _ (by decide)) (n _ (by decide)), Vb_keep U d (k0 r h), Va_of_ne U (n _ (by decide))]

/-! ## Buffers written -/

theorem Va_v0 : Va U (Proc.devRef .tc main_v0) = (shapeCast S1x64 (U (Proc.devRef .tc main_arg2)) shapeCasts_S64_S1x64 : S1x64.Idx → F .f32) :=
  reshape_result _ _ _ _ _ _ _

theorem Vb_v1_0 : Vb U d (Proc.devRef .tc main_v1_0) = (codesG (Va U) : S16x1x576.Idx → BitVec 32) :=
  (Pipeline.afterRegion_arr (pd0 (Va U) 0 0 d) (Va U) inj0 4).trans (codes_arr (Va U) 0 d)
theorem Vb_v1_1 : Vb U d (Proc.devRef .tc main_v1_1) = (fun _ => lossAt (Va U) 15 : S1x1.Idx → F .f32) :=
  (Pipeline.afterRegion_arr (pd0 (Va U) 0 0 d) (Va U) inj0 5).trans (loss_arr (Va U) 0 d)
theorem Vb_v1_2 : Vb U d (Proc.devRef .tc main_v1_2) = (cbpOf (U (Proc.devRef .tc main_arg5)) : S8192x128.Idx → F .f32) :=
  (Pipeline.afterRegion_arr (pd0 (Va U) 0 0 d) (Va U) inj0 6).trans
    ((cbp_arr (Va U) 0 d).trans (congrArg cbpOf (Va_of_ne U (r := main_arg5) (by decide))))

/-- The codes dealt to the tiles. -/
theorem Vc_v3 : Vc U d rI = (shapeCast S32x3x96 (shapeCast S9216 (codesG (Va U)) shapeCasts_S16x1x576_S9216) shapeCasts_S9216_S32x3x96 : S32x3x96.Idx → BitVec 32) :=
  (reshape_result _ _ _ _ _ _ _).trans (by
    rw [show (op2 (F := F)).result (Vb U d) (Proc.devRef .tc main_v2) = _ from reshape_result _ _ _ _ _ _ _, Vb_v1_0]
    rfl)

theorem Vc_v1_2 : Vc U d rT = (cbpOf (U (Proc.devRef .tc main_arg5)) : S8192x128.Idx → F .f32) :=
  (Vc_of_ne U d (by decide) (by decide)).trans (Vb_v1_2 U d)

theorem Vd_v4 : Vd U d rO = gath (cbpOf (U (Proc.devRef .tc main_arg5))) (shapeCast S32x3x96 (shapeCast S9216 (codesG (Va U)) shapeCasts_S16x1x576_S9216) shapeCasts_S9216_S32x3x96) := by
  rw [show Vd U d rO = gath (Vc U d rT) (Vc U d rI) from Function.update_self .., Vc_v3, Vc_v1_2]

/-- The rows gathered, by image. -/
theorem Ve_v6 : Ve U d (Proc.devRef .tc main_v6) = (shapeCast S16x576x128 (shapeCast S9216x128 (gath (cbpOf (U (Proc.devRef .tc main_arg5)))
      (shapeCast S32x3x96 (shapeCast S9216 (codesG (Va U)) shapeCasts_S16x1x576_S9216) shapeCasts_S9216_S32x3x96)) shapeCasts_S32x3x96x128_S9216x128)
      shapeCasts_S9216x128_S16x576x128 : S16x576x128.Idx → F .f32) :=
  (reshape_result_ne _ _ _ _ _ _ _ (by decide)).trans ((reshape_result _ _ _ _ _ _ _).trans (by
    rw [show (op4 (F := F)).result (Vd U d) (Proc.devRef .tc main_v5) = _ from reshape_result _ _ _ _ _ _ _, Vd_v4]
    rfl))

theorem Ve_v7 : Ve U d (Proc.devRef .tc main_v7) = (shapeCast S768x1 (U (Proc.devRef .tc main_arg4)) shapeCasts_S768_S768x1 : S768x1.Idx → F .f32) :=
  (reshape_result _ _ _ _ _ _ _).trans (by
    rw [show (op5 (F := F)).result ((op4 (F := F)).result (Vd U d)) (Proc.devRef .tc main_arg4) = U (Proc.devRef .tc main_arg4) from
      (reshape_result_ne _ _ _ _ _ _ _ (by decide)).trans ((reshape_result_ne _ _ _ _ _ _ _ (by decide)).trans
        ((Vd_of_ne U d (by decide)).trans ((Vc_of_ne U d (by decide) (by decide)).trans ((Vb_keep U d (by decide)).trans (Va_of_ne U (by decide))))))]
    rfl)

/-- The projected rows. -/
theorem Vg_v8 : Vg U d (Proc.devRef .tc main_v8) = (outG (Ve U d) : S16x768x576.Idx → F .f32) :=
  (Vg_of_ne U d (by decide) (by decide) (by decide) (by decide)).trans
    ((Pipeline.afterRegion_arr (pd2 (Ve U d) 1 1 d) (Ve U d) inj2 3).trans (out_arr (Ve U d) 1 d))

theorem Vf_off {r : Ref sig .tc} (h : r = main_v1_0 ∨ r = main_v1_1) : Vf U d (Proc.devRef .tc r) = Vb U d (Proc.devRef .tc r) := by
  rcases h with rfl | rfl <;>
  exact (Vf_keep U d (by decide)).trans ((Ve_of_ne U d (by decide) (by decide) (by decide)).trans
    ((Vd_of_ne U d (by decide)).trans (Vc_of_ne U d (by decide) (by decide))))

/-- The codes. -/
theorem Vg_v9 : Vg U d (Proc.devRef .tc main_v9) = (shapeCast S16x576 (codesG (Va U)) shapeCasts_S16x1x576_S16x576 : S16x576.Idx → BitVec 32) :=
  (binary_result_ne _ _ _ _ _ _ _ _ (by decide)).trans ((nullary_result_ne _ _ _ _ (by decide)).trans
    ((reshape_result_ne _ _ _ _ _ _ _ (by decide)).trans ((reshape_result _ _ _ _ _ _ _).trans (by
      rw [Vf_off U d (.inl rfl), Vb_v1_0]
      rfl))))

/-- The loss. -/
theorem Vg_v11 : Vg U d (Proc.devRef .tc main_v11) = (Host.divf (shapeCast S_ (fun _ => lossAt (Va U) 15 : S1x1.Idx → F .f32) shapeCasts_S1x1_S_)
      (constant S_ .f32 0x49100000#32) : S_.Idx → F .f32) :=
  (binary_result _ _ _ _ _ _ _ _).trans (by
    rw [show (op9 (F := F)).result ((op8 (F := F)).result ((op7 (F := F)).result (Vf U d))) (Proc.devRef .tc main_cst) = _ from nullary_result _ _ _ _,
      show (op9 (F := F)).result ((op8 (F := F)).result ((op7 (F := F)).result (Vf U d))) (Proc.devRef .tc main_v10)
        = (shapeCast S_ (fun _ => lossAt (Va U) 15 : S1x1.Idx → F .f32) shapeCasts_S1x1_S_ : S_.Idx → F .f32) from
        (nullary_result_ne _ _ _ _ (by decide)).trans ((reshape_result _ _ _ _ _ _ _).trans (by
          rw [show (op7 (F := F)).result (Vf U d) (Proc.devRef .tc main_v1_1) = _ from (reshape_result_ne _ _ _ _ _ _ _ (by decide)).trans ((Vf_off U d (.inr rfl)).trans (Vb_v1_1 U d))]
          rfl))])

end Cert.Proof

end
-- ==== Proof.Spec.lean ====
/-
  What the first kernel's body computes, written as a fold: four windows of the codebook, in each sixteen blocks of 128
  rows, per lane the smallest distance so far and the row it was met at; then the smallest over the lanes and the first
  row that has it; then the windows' results joined by a strict comparison. The printed chain of values is this fold.
-/
module

public import proofs.«01_k».proof.Proof.Assign

@[expose] public section

noncomputable section

namespace Cert.Proof

open Cert.KernelIdeal Cert.KernelIdeal.Gen
open Idealize.ShloMosaic Idealize.ShloMosaic.Tactic

variable {F : FTy → Type} [FloatOps F]

/-- One block of distances: lanes `o` to `o + 127` of a window. -/
abbrev sbv (zn : FVec F S576x1 .f32) (cn : FVec F S1x2048 .f32) (t : FVec F S576x2048 .f32) (o : ℕ)
    (h : S576x2048.Slices ![0, o] S576x128) (h' : S1x2048.Slices ![0, o] S1x128) : FVec F S576x128 .f32 :=
  addf (addf (broadcastTo S576x128 zn broadcasts_S576x1_S576x128) (extractStridedSlice S576x128 ![0, o] t h))
    (broadcastTo S576x128 (extractStridedSlice S1x128 ![0, o] cn h') broadcasts_S1x128_S576x128)

/-- A block's row numbers, lane by lane, from `r` on. -/
abbrev ibv (r : ℕ) : IVec S576x128 32 := addi (iota .tc S576x128 32 [1] iota_S576x128_d1_w32) (broadcast S576x128 (BitVec.ofNat 32 r))

/-- Take a block into the smallest so far. -/
abbrev stepv (p : FVec F S576x128 .f32 × IVec S576x128 32) (s : FVec F S576x128 .f32) (ib : IVec S576x128 32) : FVec F S576x128 .f32 × IVec S576x128 32 :=
  (minimumf p.1 s, select (cmpf .olt s p.1) ib p.2)

/-- A window: its sixteen blocks, its first row numbered `r`. -/
def winv (zn : FVec F S576x1 .f32) (cn : FVec F S1x2048 .f32) (t : FVec F S576x2048 .f32) (r : ℕ) : FVec F S576x128 .f32 × IVec S576x128 32 :=
  let p0 := ((sbv zn cn t 0 slices_S576x2048_o0_0_S576x128 slices_S1x2048_o0_0_S1x128), ibv r)
  let p1 := stepv p0 (sbv zn cn t 128 slices_S576x2048_o0_128_S576x128 slices_S1x2048_o0_128_S1x128) (ibv (r + 128))
  let p2 := stepv p1 (sbv zn cn t 256 slices_S576x2048_o0_256_S576x128 slices_S1x2048_o0_256_S1x128) (ibv (r + 256))
  let p3 := stepv p2 (sbv zn cn t 384 slices_S576x2048_o0_384_S576x128 slices_S1x2048_o0_384_S1x128) (ibv (r + 384))
  let p4 := stepv p3 (sbv zn cn t 512 slices_S576x2048_o0_512_S576x128 slices_S1x2048_o0_512_S1x128) (ibv (r + 512))
  let p5 := stepv p4 (sbv zn cn t 640 slices_S576x2048_o0_640_S576x128 slices_S1x2048_o0_640_S1x128) (ibv (r + 640))
  let p6 := stepv p5 (sbv zn cn t 768 slices_S576x2048_o0_768_S576x128 slices_S1x2048_o0_768_S1x128) (ibv (r + 768))
  let p7 := stepv p6 (sbv zn cn t 896 slices_S576x2048_o0_896_S576x128 slices_S1x2048_o0_896_S1x128) (ibv (r + 896))
  let p8 := stepv p7 (sbv zn cn t 1024 slices_S576x2048_o0_1024_S576x128 slices_S1x2048_o0_1024_S1x128) (ibv (r + 1024))
  let p9 := stepv p8 (sbv zn cn t 1152 slices_S576x2048_o0_1152_S576x128 slices_S1x2048_o0_1152_S1x128) (ibv (r + 1152))
  let p10 := stepv p9 (sbv zn cn t 1280 slices_S576x2048_o0_1280_S576x128 slices_S1x2048_o0_1280_S1x128) (ibv (r + 1280))
  let p11 := stepv p10 (sbv zn cn t 1408 slices_S576x2048_o0_1408_S576x128 slices_S1x2048_o0_1408_S1x128) (ibv (r + 1408))
  let p12 := stepv p11 (sbv zn cn t 1536 slices_S576x2048_o0_1536_S576x128 slices_S1x2048_o0_1536_S1x128) (ibv (r + 1536))
  let p13 := stepv p12 (sbv zn cn t 1664 slices_S576x2048_o0_1664_S576x128 slices_S1x2048_o0_1664_S1x128) (ibv (r + 1664))
  let p14 := stepv p13 (sbv zn cn t 1792 slices_S576x2048_o0_1792_S576x128 slices_S1x2048_o0_1792_S1x128) (ibv (r + 1792))
  let p15 := stepv p14 (sbv zn cn t 1920 slices_S576x2048_o0_1920_S576x128 slices_S1x2048_o0_1920_S1x128) (ibv (r + 1920))
  p15

/-- A window's smallest distance, per token. -/
abbrev gminv (w : FVec F S576x128 .f32 × IVec S576x128 32) : FVec F S576x1 .f32 :=
  shapeCast S576x1 (multiReduction .minimumf [1] S576 w.1 0x7F800000#32 reduces_S576x128_S576 (.inl rfl) rfl) shapeCasts_S576_S576x1

/-- The first row that has it, per token. -/
abbrev gidxv (w : FVec F S576x128 .f32 × IVec S576x128 32) : IVec S576x1 32 :=
  shapeCast S576x1 (multiReductionI .minsi [1] S576
    (select (cmpf .oeq w.1 (broadcastTo S576x128 (gminv w) broadcasts_S576x1_S576x128)) w.2 (broadcast S576x128 8192#32))
    2147483647#32 reduces_S576x128_S576 rfl) shapeCasts_S576_S576x1

/-- To the short format and back. -/
abbrev rbv (g : FVec F S576x1 .f32) : FVec F S576x1 .f32 := extf .f32 (truncf .bf16 g bitsLt_bf16_f32) bitsLt_bf16_f32

/-- The running result: the row, the smallest distance, the one compared against. -/
structure St (F : FTy → Type) where
  ri : IVec S576x1 32
  sel : FVec F S576x1 .f32
  rv : FVec F S576x1 .f32

/-- Join a window to the running result. -/
abbrev joinv (s : St F) (w : FVec F S576x128 .f32 × IVec S576x128 32) : St F where
  ri := select (cmpf .olt (gminv w) s.rv) (gidxv w) s.ri
  sel := select (cmpf .olt (gminv w) s.rv) (gminv w) s.sel
  rv := select (cmpf .olt (gminv w) s.rv) (rbv (gminv w)) s.rv

/-- The running result after the first window. -/
abbrev startv (w : FVec F S576x128 .f32 × IVec S576x128 32) : St F := ⟨gidxv w, gminv w, rbv (gminv w)⟩

/-- The four windows, joined. -/
def specv (v3 : Vec F S1x768x576 .f32) (v5 : Vec F S768x64 .f32) (v7 : Vec F S1x64 .f32) (c0 c1 c2 c3 : Vec F S2048x64 .f32) : St F :=
  let z := k0_pay4 v3 v5 v7
  let zn := k0_pay5 v3 v5 v7
  joinv (joinv (joinv (startv (winv zn (k0_pay51 c0) (k0_pay52 z c0) 0)) (winv zn (k0_pay51 c1) (k0_pay52 z c1) 2048))
    (winv zn (k0_pay51 c2) (k0_pay52 z c2) 4096)) (winv zn (k0_pay51 c3) (k0_pay52 z c3) 6144)

set_option maxRecDepth 2000000 in
set_option maxHeartbeats 0 in
theorem asgRes_eq (v3 : Vec F S1x768x576 .f32) (v5 : Vec F S768x64 .f32) (v7 : Vec F S1x64 .f32) (c0 c1 c2 c3 : Vec F S2048x64 .f32) :
    asgRes v3 v5 v7 c0 c1 c2 c3 = ((specv v3 v5 v7 c0 c1 c2 c3).sel,
      shapeCast S1x1x576 (shapeCast S576 (specv v3 v5 v7 c0 c1 c2 c3).ri shapeCasts_S576x1_S576) shapeCasts_S576_S1x1x576) := by
  rfl

end Cert.Proof

end
-- ==== Proof.ArgMin.lean ====
/-
  The smallest value of a sequence and the first place that has it, over a range of places: ranges join, the pair is
  unique, a scan by lanes finds it, and a left fold of the comparison that keeps the first finds it.
-/
module

public import proofs.«01_k».proof.Proof.Base
public import Idealize.ShloMosaic.PureOps.Reduce
public import Idealize.ShloMosaic.PureOps.Ideal.Laws

@[expose] public section

noncomputable section

namespace Cert.Proof

open Idealize.ShloMosaic Idealize.ShloMosaic.Tactic

/-- `m` is the smallest of `f` over `[lo, hi)` and `i` the first place that has it. -/
def IsArg (f : ℕ → EReal) (lo hi : ℕ) (m : EReal) (i : ℕ) : Prop :=
  lo ≤ i ∧ i < hi ∧ f i = m ∧ (∀ j, lo ≤ j → j < hi → m ≤ f j) ∧ ∀ j, lo ≤ j → j < i → m < f j

theorem IsArg.unique {f : ℕ → EReal} {lo hi : ℕ} {m m' : EReal} {i i' : ℕ} (h : IsArg f lo hi m i) (h' : IsArg f lo hi m' i') :
    m = m' ∧ i = i' := by
  obtain ⟨h1, h2, h3, h4, h5⟩ := h
  obtain ⟨k1, k2, k3, k4, k5⟩ := h'
  have hm : m = m' := le_antisymm (k3 ▸ h4 i' k1 k2) (h3 ▸ k4 i h1 h2)
  refine ⟨hm, ?_⟩
  rcases lt_trichotomy i i' with hl | hl | hl
  · exact absurd (h3.trans hm) (k5 i h1 hl).ne'
  · exact hl
  · exact absurd (k3.trans hm.symm) (h5 i' k1 hl).ne'

theorem IsArg.congr {f g : ℕ → EReal} {lo hi : ℕ} {m : EReal} {i : ℕ} (h : IsArg f lo hi m i) (hfg : ∀ j, lo ≤ j → j < hi → f j = g j) :
    IsArg g lo hi m i := by
  obtain ⟨h1, h2, h3, h4, h5⟩ := h
  exact ⟨h1, h2, (hfg i h1 h2) ▸ h3, fun j a b => (hfg j a b) ▸ h4 j a b, fun j a b => (hfg j a (b.trans h2)) ▸ h5 j a b⟩

/-- Two ranges one after the other: the second one's smallest wins if it is strictly smaller. -/
theorem IsArg.join {f : ℕ → EReal} {lo mid hi : ℕ} {m m' : EReal} {i i' : ℕ} (h : IsArg f lo mid m i) (h' : IsArg f mid hi m' i') :
    IsArg f lo hi (if m' < m then m' else m) (if m' < m then i' else i) := by
  obtain ⟨h1, h2, h3, h4, h5⟩ := h
  obtain ⟨k1, k2, k3, k4, k5⟩ := h'
  by_cases hlt : m' < m
  · simp only [if_pos hlt]
    refine ⟨by omega, k2, k3, fun j a b => ?_, fun j a b => ?_⟩
    · by_cases hj : j < mid
      · exact hlt.le.trans (h4 j a hj)
      · exact k4 j (by omega) b
    · by_cases hj : j < mid
      · exact hlt.trans_le (h4 j a hj)
      · exact k5 j (by omega) b
  · simp only [if_neg hlt]
    have hle : m ≤ m' := not_lt.1 hlt
    refine ⟨h1, by omega, h3, fun j a b => ?_, h5⟩
    by_cases hj : j < mid
    · exact h4 j a hj
    · exact hle.trans (k4 j (by omega) b)

/-- One lane's scan: of the places `r + 128 k' + l`, `k' < k`, the smallest value `m` and the first that has it. -/
def Lane (f : ℕ → EReal) (r l k : ℕ) (m : EReal) (i : BitVec 32) : Prop :=
  ∃ k' < k, i.toNat = r + 128 * k' + l ∧ m = f (r + 128 * k' + l) ∧ (∀ q < k, m ≤ f (r + 128 * q + l)) ∧ ∀ q < k', m < f (r + 128 * q + l)

theorem lane_one {f : ℕ → EReal} {r l : ℕ} {s : EReal} {ib : BitVec 32} (hs : s = f (r + l)) (hi : ib.toNat = r + l) : Lane f r l 1 s ib :=
  ⟨0, by omega, by omega, by simpa using hs, fun q hq => by
    obtain rfl : q = 0 := by omega
    simpa using hs.le, fun q hq => by omega⟩

theorem select_olt (s m : EReal) {α : Type} (a b : α) : Scalar.select (Ideal.cmp .olt s m) a b = if s < m then a else b := by
  unfold Scalar.select Ideal.cmp
  by_cases h : s < m <;> simp [h]

theorem select_oeq (s m : EReal) {α : Type} (a b : α) : Scalar.select (Ideal.cmp .oeq s m) a b = if s = m then a else b := by
  unfold Scalar.select Ideal.cmp
  by_cases h : s = m <;> simp [h]

theorem Lane.step {f : ℕ → EReal} {r l k : ℕ} {m s : EReal} {i ib : BitVec 32} (h : Lane f r l k m i)
    (hs : s = f (r + 128 * k + l)) (hi : ib.toNat = r + 128 * k + l) :
    Lane f r l (k + 1) (min m s) (Scalar.select (Ideal.cmp .olt s m) ib i) := by
  obtain ⟨k', h1, h2, h3, h4, h5⟩ := h
  rw [select_olt]
  by_cases hlt : s < m
  · rw [if_pos hlt, min_eq_right hlt.le]
    refine ⟨k, by omega, hi, hs, fun q hq => ?_, fun q hq => hlt.trans_le (h4 q hq)⟩
    rcases Nat.lt_succ_iff_lt_or_eq.1 hq with hq | rfl
    · exact hlt.le.trans (h4 q hq)
    · exact hs.le
  · rw [if_neg hlt, min_eq_left (not_lt.1 hlt)]
    refine ⟨k', by omega, h2, h3, fun q hq => ?_, h5⟩
    rcases Nat.lt_succ_iff_lt_or_eq.1 hq with hq | rfl
    · exact h4 q hq
    · exact hs ▸ not_lt.1 hlt

/-- A fold of an operation that returns one of its two arguments, the one with the smaller key. -/
theorem fold_key {α β κ : Type} [LinearOrder κ] [DecidableEq β] (key : α → κ) (op : α → α → α) [Std.Commutative op] [Std.Associative op]
    (hop : ∀ a b, (op a b = a ∨ op a b = b) ∧ key (op a b) ≤ key a ∧ key (op a b) ≤ key b) (init : α) (x : β → α) (s : Finset β) :
    (s.fold op init x = init ∨ ∃ b ∈ s, s.fold op init x = x b) ∧ key (s.fold op init x) ≤ key init ∧ ∀ b ∈ s, key (s.fold op init x) ≤ key (x b) := by
  induction s using Finset.induction_on with
  | empty => simp
  | insert b s hb ih =>
    rw [Finset.fold_insert hb]
    obtain ⟨h1, h2, h3⟩ := ih
    obtain ⟨g1, g2, g3⟩ := hop (x b) (s.fold op init x)
    refine ⟨?_, g3.trans h2, fun c hc => ?_⟩
    · rcases g1 with g | g
      · exact .inr ⟨b, Finset.mem_insert_self _ _, g⟩
      · rw [g]
        rcases h1 with h1 | ⟨c, hc, h1⟩
        · exact .inl h1
        · exact .inr ⟨c, Finset.mem_insert_of_mem hc, h1⟩
    · rcases Finset.mem_insert.1 hc with rfl | hc
      · exact g2
      · exact g3.trans (h3 c hc)

theorem minsi_key (a b : BitVec 32) : (IntOp.minsi a b = a ∨ IntOp.minsi a b = b) ∧ (IntOp.minsi a b).toInt ≤ a.toInt ∧ (IntOp.minsi a b).toInt ≤ b.toInt := by
  unfold IntOp.minsi
  by_cases h : a.slt b
  · rw [if_pos h]
    have := BitVec.slt_iff_toInt_lt.1 h
    exact ⟨.inl rfl, le_refl _, this.le⟩
  · rw [if_neg h]
    have : ¬ a.toInt < b.toInt := fun hh => h (BitVec.slt_iff_toInt_lt.2 hh)
    exact ⟨.inr rfl, not_lt.1 this, le_refl _⟩

theorem min_key (a b : EReal) : (min a b = a ∨ min a b = b) ∧ id (min a b) ≤ id a ∧ id (min a b) ≤ id b :=
  ⟨min_choice a b, min_le_left _ _, min_le_right _ _⟩

theorem toInt_small {a : BitVec 32} {n : ℕ} (h : a.toNat = n) (hn : n < 2147483648) : a.toInt = n := by
  rw [BitVec.toInt_eq_toNat_of_lt (by omega), h]

/-- The end of a window: the smallest over the lanes, and the smallest row number among the lanes that have it. -/
theorem lanes_end {f : ℕ → EReal} {r : ℕ} (hr : r + 2048 ≤ 8192) (m : Fin 128 → EReal) (i : Fin 128 → BitVec 32) (h : ∀ l, Lane f r l.val 16 (m l) (i l))
    (g : EReal) (hg : g = (Finset.univ : Finset (Fin 128)).fold min ⊤ m) (gi : BitVec 32)
    (hgi : gi = (Finset.univ : Finset (Fin 128)).fold (IKind.op .minsi) 2147483647#32 fun l => Scalar.select (Ideal.cmp .oeq (m l) g) (i l) 8192#32) :
    IsArg f r (r + 2048) g gi.toNat := by
  obtain ⟨a1, a2, a3⟩ := fold_key id min min_key ⊤ m Finset.univ
  rw [← hg] at a1 a2 a3
  obtain ⟨b1, b2, b3⟩ := fold_key BitVec.toInt (IKind.op .minsi) minsi_key 2147483647#32 (fun l => Scalar.select (Ideal.cmp .oeq (m l) g) (i l) 8192#32) Finset.univ
  rw [← hgi] at b1 b2 b3
  have hlt : ∀ l, (i l).toNat < r + 2048 := fun l => by
    obtain ⟨k', h1, h2, _⟩ := h l
    omega
  have hatt : ∃ l, m l = g := by
    rcases a1 with a1 | ⟨l, _, a1⟩
    · exact ⟨0, le_antisymm (a1 ▸ le_top) (a3 0 (Finset.mem_univ _))⟩
    · exact ⟨l, a1.symm⟩
  obtain ⟨l0, hl0⟩ := hatt
  have hle : ∀ l, m l = g → gi.toInt ≤ (i l).toNat := fun l hl => by
    have := b3 l (Finset.mem_univ _)
    rw [select_oeq, if_pos hl, toInt_small (a := i l) rfl (by have := hlt l; omega)] at this
    exact this
  have hl0' := hle l0 hl0
  have hl0'' := hlt l0
  have hgl : ∃ l, m l = g ∧ gi = i l := by
    rcases b1 with b1 | ⟨l, _, b1⟩
    · rw [b1] at hl0'
      have : (2147483647#32 : BitVec 32).toInt = 2147483647 := by decide
      omega
    · rw [select_oeq] at b1
      by_cases hl : m l = g
      · exact ⟨l, hl, by rw [if_pos hl] at b1; exact b1⟩
      · rw [if_neg hl] at b1
        rw [b1] at hl0'
        have : (8192#32 : BitVec 32).toInt = 8192 := by decide
        omega
  obtain ⟨l1, hl1, rfl⟩ := hgl
  obtain ⟨k', h1, h2, h3, h4, h5⟩ := h l1
  have hi1 : (i l1).toInt = (i l1).toNat := toInt_small rfl (by have := hlt l1; omega)
  refine ⟨by omega, hlt l1, by rw [h2, ← h3, hl1], fun j hj hj' => ?_, fun j hj hj' => ?_⟩
  · have hl : (j - r) % 128 < 128 := Nat.mod_lt _ (by omega)
    obtain ⟨_, _, _, _, c4, _⟩ := h ⟨(j - r) % 128, hl⟩
    have c := c4 ((j - r) / 128) (by omega)
    rw [show r + 128 * ((j - r) / 128) + (j - r) % 128 = j by omega] at c
    exact (a3 _ (Finset.mem_univ _)).trans c
  · have hl : (j - r) % 128 < 128 := Nat.mod_lt _ (by omega)
    obtain ⟨q, c1, c2, c3, c4, c5⟩ := h ⟨(j - r) % 128, hl⟩
    have hj2 := hlt l1
    by_cases hm : m ⟨(j - r) % 128, hl⟩ = g
    · have hh := hle _ hm
      rw [hi1] at hh
      dsimp only at c2
      have c := c5 ((j - r) / 128) (by omega)
      rw [show r + 128 * ((j - r) / 128) + (j - r) % 128 = j by omega, hm] at c
      exact c
    · have c := c4 ((j - r) / 128) (by omega)
      rw [show r + 128 * ((j - r) / 128) + (j - r) % 128 = j by omega] at c
      exact (lt_of_le_of_ne (a3 _ (Finset.mem_univ _)) (Ne.symm hm)).trans_le c

/-- A left fold that keeps the first smallest. -/
theorem fold_arg (f : ℕ → EReal) (op : EReal × BitVec 32 → EReal × BitVec 32 → EReal × BitVec 32)
    (h0 : op (⊤, 0#32) (f 0, 0#32) = (f 0, 0#32))
    (hop : ∀ m i (k : ℕ), k < 8192 → i.toNat < k → op (m, i) (f k, BitVec.ofNat 32 k) = if m ≤ f k then (m, i) else (f k, BitVec.ofNat 32 k))
    (n : ℕ) (hn : n < 8192) :
    ∃ m i, (List.range (n + 1)).foldl (fun a k => op a (f k, BitVec.ofNat 32 k)) (⊤, 0#32) = (m, i) ∧ IsArg f 0 (n + 1) m i.toNat := by
  induction n with
  | zero =>
    refine ⟨f 0, 0#32, ?_, le_refl _, by decide, rfl, fun j _ hj => ?_, fun j _ hj => ?_⟩
    · rw [show List.range (0 + 1) = [0] from rfl]
      exact h0
    · obtain rfl : j = 0 := by omega
      exact le_refl _
    · exact absurd hj (by simp)
  | succ n ih =>
    obtain ⟨m, i, h1, h2⟩ := ih (by omega)
    rw [List.range_succ, List.foldl_append, h1]
    show ∃ m' i', op (m, i) (f (n + 1), BitVec.ofNat 32 (n + 1)) = (m', i') ∧ _
    rw [hop m i (n + 1) hn h2.2.1]
    have hk : (BitVec.ofNat 32 (n + 1)).toNat = n + 1 := by rw [BitVec.toNat_ofNat]; omega
    have hone : IsArg f (n + 1) (n + 1 + 1) (f (n + 1)) (n + 1) :=
      ⟨le_refl _, by omega, rfl, fun j a b => by obtain rfl : j = n + 1 := by omega
                                                 exact le_refl _, fun j a b => by omega⟩
    have hj := h2.join hone
    by_cases hle : m ≤ f (n + 1)
    · rw [if_pos hle]
      rw [if_neg (not_lt.2 hle), if_neg (not_lt.2 hle)] at hj
      exact ⟨m, i, rfl, hj⟩
    · rw [if_neg hle]
      rw [if_pos (not_le.1 hle), if_pos (not_le.1 hle)] at hj
      exact ⟨_, _, rfl, by rw [hk]; exact hj⟩

end Cert.Proof

end
-- ==== Proof.Dist.lean ====
/-
  A window of the codebook at an element: its lanes scan the distances in steps of 128, so the window's smallest and
  its row number are the smallest distance over the window's 2048 rows and the first row that has it; and the four
  windows joined are the smallest over all 8192 rows.
-/
module

public import proofs.«01_k».proof.Proof.Spec
public import proofs.«01_k».proof.Proof.ArgMin
public import Idealize.ShloMosaic.Lib.ValueLayout
public import Idealize.ShloMosaic.Lib.ValueLayoutCasts

@[expose] public section

noncomputable section

namespace Cert.Proof

open Cert.KernelIdeal Cert.KernelIdeal.Gen
open Idealize.ShloMosaic Idealize.ShloMosaic.Tactic Idealize.ShloMosaic.ValueIdx

/-- A window's distance of token `n` from row `j` of the window. -/
def dk (zn : FVec Ideal S576x1 .f32) (cn : FVec Ideal S1x2048 .f32) (t : FVec Ideal S576x2048 .f32) (n : Fin 576) (j : ℕ) : EReal :=
  if h : j < 2048 then (zn (ix2 n 0) + t (ix2 n ⟨j, h⟩)) + cn (ix2 0 ⟨j, h⟩) else 0

theorem sbv_apply (zn : FVec Ideal S576x1 .f32) (cn : FVec Ideal S1x2048 .f32) (t : FVec Ideal S576x2048 .f32) (o : ℕ) (h) (h') (n : Fin 576)
    (l : Fin 128) (ho : o + 128 ≤ 2048) : sbv zn cn t o h h' (ix2 n l) = dk zn cn t n (o + l.val) := by
  have hl := l.isLt
  unfold dk
  rw [dif_pos (by omega : o + l.val < 2048)]
  show (broadcastTo S576x128 zn _ (ix2 n l) + extractStridedSlice S576x128 ![0, o] t h (ix2 n l)) +
    broadcastTo S576x128 (extractStridedSlice S1x128 ![0, o] cn h') _ (ix2 n l) = _
  rw [broadcastTo_1b_ab_apply]
  refine congrArg₂ (· + ·) (congrArg₂ (· + ·) ?_ ?_) ?_
  · refine broadcastTo_apply _ _ _ _ fun a => ?_
    fin_cases a
    · rfl
    · rfl
  · refine extractStridedSlice_apply _ _ _ _ _ fun a => ?_
    fin_cases a
    · exact (Nat.zero_add _).symm
    · rfl
  · refine extractStridedSlice_apply _ _ _ _ _ fun a => ?_
    fin_cases a
    · rfl
    · rfl

theorem ibv_toNat (r : ℕ) (hr : r ≤ 8192) (n : Fin 576) (l : Fin 128) : (ibv r (ix2 n l)).toNat = r + l.val := by
  show ((BitVec.ofNat 32 (0 * 128 + l.val)) + (BitVec.ofNat 32 r)).toNat = _
  have hl := l.isLt
  rw [BitVec.toNat_add, BitVec.toNat_ofNat, BitVec.toNat_ofNat]
  omega

theorem stepv_lane {f : ℕ → EReal} {r k : ℕ} {n : Fin 576} {l : Fin 128} {p : FVec Ideal S576x128 .f32 × IVec S576x128 32}
    {s : FVec Ideal S576x128 .f32} {ib : IVec S576x128 32} (h : Lane f r l.val k (p.1 (ix2 n l)) (p.2 (ix2 n l)))
    (hs : s (ix2 n l) = f (r + 128 * k + l.val)) (hi : (ib (ix2 n l)).toNat = r + 128 * k + l.val) :
    Lane f r l.val (k + 1) ((stepv p s ib).1 (ix2 n l)) ((stepv p s ib).2 (ix2 n l)) :=
  h.step hs hi

/-- Every lane of a window's result. -/
theorem winv_lane (zn : FVec Ideal S576x1 .f32) (cn : FVec Ideal S1x2048 .f32) (t : FVec Ideal S576x2048 .f32) (r : ℕ) (hr : r + 2048 ≤ 8192)
    (f : ℕ → EReal) (n : Fin 576) (hf : ∀ j, j < 2048 → f (r + j) = dk zn cn t n j) (l : Fin 128) :
    Lane f r l.val 16 ((winv zn cn t r).1 (ix2 n l)) ((winv zn cn t r).2 (ix2 n l)) := by
  have hl := l.isLt
  have hs : ∀ o h h', o + 128 ≤ 2048 → sbv zn cn t o h h' (ix2 n l) = f (r + o + l.val) := fun o h h' ho => by
    rw [sbv_apply zn cn t o h h' n l ho, ← hf _ (by omega), Nat.add_assoc]
  have hi : ∀ o, o + 128 ≤ 2048 → (ibv (r + o) (ix2 n l)).toNat = r + o + l.val := fun o ho => ibv_toNat _ (by omega) n l
  have h1 : Lane f r l.val 1 (sbv zn cn t 0 slices_S576x2048_o0_0_S576x128 slices_S1x2048_o0_0_S1x128 (ix2 n l)) (ibv r (ix2 n l)) :=
    lane_one (hs 0 _ _ (by omega)) (hi 0 (by omega))
  have h2 := stepv_lane (k := 1) (p := (sbv zn cn t 0 slices_S576x2048_o0_0_S576x128 slices_S1x2048_o0_0_S1x128, ibv r)) h1 (hs 128 slices_S576x2048_o0_128_S576x128 slices_S1x2048_o0_128_S1x128 (by omega)) (hi 128 (by omega))
  have h3 := stepv_lane (k := 2)  h2 (hs 256 slices_S576x2048_o0_256_S576x128 slices_S1x2048_o0_256_S1x128 (by omega)) (hi 256 (by omega))
  have h4 := stepv_lane (k := 3)  h3 (hs 384 slices_S576x2048_o0_384_S576x128 slices_S1x2048_o0_384_S1x128 (by omega)) (hi 384 (by omega))
  have h5 := stepv_lane (k := 4)  h4 (hs 512 slices_S576x2048_o0_512_S576x128 slices_S1x2048_o0_512_S1x128 (by omega)) (hi 512 (by omega))
  have h6 := stepv_lane (k := 5)  h5 (hs 640 slices_S576x2048_o0_640_S576x128 slices_S1x2048_o0_640_S1x128 (by omega)) (hi 640 (by omega))
  have h7 := stepv_lane (k := 6)  h6 (hs 768 slices_S576x2048_o0_768_S576x128 slices_S1x2048_o0_768_S1x128 (by omega)) (hi 768 (by omega))
  have h8 := stepv_lane (k := 7)  h7 (hs 896 slices_S576x2048_o0_896_S576x128 slices_S1x2048_o0_896_S1x128 (by omega)) (hi 896 (by omega))
  have h9 := stepv_lane (k := 8)  h8 (hs 1024 slices_S576x2048_o0_1024_S576x128 slices_S1x2048_o0_1024_S1x128 (by omega)) (hi 1024 (by omega))
  have h10 := stepv_lane (k := 9)  h9 (hs 1152 slices_S576x2048_o0_1152_S576x128 slices_S1x2048_o0_1152_S1x128 (by omega)) (hi 1152 (by omega))
  have h11 := stepv_lane (k := 10)  h10 (hs 1280 slices_S576x2048_o0_1280_S576x128 slices_S1x2048_o0_1280_S1x128 (by omega)) (hi 1280 (by omega))
  have h12 := stepv_lane (k := 11)  h11 (hs 1408 slices_S576x2048_o0_1408_S576x128 slices_S1x2048_o0_1408_S1x128 (by omega)) (hi 1408 (by omega))
  have h13 := stepv_lane (k := 12)  h12 (hs 1536 slices_S576x2048_o0_1536_S576x128 slices_S1x2048_o0_1536_S1x128 (by omega)) (hi 1536 (by omega))
  have h14 := stepv_lane (k := 13)  h13 (hs 1664 slices_S576x2048_o0_1664_S576x128 slices_S1x2048_o0_1664_S1x128 (by omega)) (hi 1664 (by omega))
  have h15 := stepv_lane (k := 14)  h14 (hs 1792 slices_S576x2048_o0_1792_S576x128 slices_S1x2048_o0_1792_S1x128 (by omega)) (hi 1792 (by omega))
  have h16 := stepv_lane (k := 15)  h15 (hs 1920 slices_S576x2048_o0_1920_S576x128 slices_S1x2048_o0_1920_S1x128 (by omega)) (hi 1920 (by omega))
  exact h16

theorem top_bits : Ideal.ofBits .f32 0x7F800000#32 = ⊤ := by simp [Ideal.ofBits, Ideal.ieee]

theorem lift_ix (n : Fin 576) (l : Fin 128) : reduces_S576x128_S576.lift (ix1 n) l = ix2 n l := by
  funext a
  fin_cases a <;> rfl

theorem gminv_apply (w : FVec Ideal S576x128 .f32 × IVec S576x128 32) (n : Fin 576) :
    gminv w (ix2 n 0) = (Finset.univ : Finset (Fin 128)).fold min (⊤ : EReal) fun l => w.1 (ix2 n l) := by
  unfold gminv
  rw [shapeCast_a_a1_apply]
  refine (multiReduction_minimumf_eq_fold _ _ _ _ _ _).trans ?_
  refine (reduces_S576x128_S576.fold_filter_drop_single (FloatOps.minimumf (F := Ideal) (φ := .f32)) _ w.1 (ix1 n)).trans ?_
  show (Finset.univ : Finset (Fin 128)).fold min (Ideal.ofBits .f32 0x7F800000#32) (fun l => w.1 (reduces_S576x128_S576.lift (ix1 n) l)) = _
  rw [top_bits]
  congr 1
  funext l
  exact congrArg w.1 (lift_ix n l)

theorem gidxv_apply (w : FVec Ideal S576x128 .f32 × IVec S576x128 32) (n : Fin 576) :
    gidxv w (ix2 n 0) = (Finset.univ : Finset (Fin 128)).fold (IKind.op .minsi) 2147483647#32
      fun l => Scalar.select (Ideal.cmp .oeq (w.1 (ix2 n l)) (gminv w (ix2 n 0))) (w.2 (ix2 n l)) 8192#32 := by
  unfold gidxv
  rw [shapeCast_a_a1_apply]
  refine (multiReductionI_eq_fold _ _ _ _ _ _).trans ?_
  refine (reduces_S576x128_S576.fold_filter_drop_single (IKind.op .minsi) _ _ (ix1 n)).trans ?_
  refine congrArg (fun f => Finset.fold (IKind.op .minsi) 2147483647#32 f (Finset.univ : Finset (Fin 128))) ?_
  funext l
  have hb : ∀ l : Fin 128, broadcastTo S576x128 (gminv w) broadcasts_S576x1_S576x128 (ix2 n l) = gminv w (ix2 n 0) := fun l =>
    broadcastTo_apply (gminv w) _ (ix2 n l) (ix2 n 0) fun a => by fin_cases a <;> rfl
  refine (congrArg (select (cmpf .oeq w.1 (broadcastTo S576x128 (gminv w) broadcasts_S576x1_S576x128)) w.2 (broadcast S576x128 8192#32)) (lift_ix n l)).trans ?_
  exact congrArg (fun x => Scalar.select (Ideal.cmp .oeq (w.1 (ix2 n l)) x) (w.2 (ix2 n l)) 8192#32) (hb l)

/-- A window's result at a token. -/
theorem winv_arg (zn : FVec Ideal S576x1 .f32) (cn : FVec Ideal S1x2048 .f32) (t : FVec Ideal S576x2048 .f32) (r : ℕ) (hr : r + 2048 ≤ 8192)
    (f : ℕ → EReal) (n : Fin 576) (hf : ∀ j, j < 2048 → f (r + j) = dk zn cn t n j) :
    IsArg f r (r + 2048) (gminv (winv zn cn t r) (ix2 n 0)) (gidxv (winv zn cn t r) (ix2 n 0)).toNat :=
  lanes_end hr _ _ (winv_lane zn cn t r hr f n hf) _ (gminv_apply _ n) _ (gidxv_apply _ n)

/-- The joined result at a token, `hi` rows taken. -/
def StOk (f : ℕ → EReal) (n : Fin 576) (hi : ℕ) (s : St Ideal) : Prop :=
  IsArg f 0 hi (s.sel (ix2 n 0)) (s.ri (ix2 n 0)).toNat ∧ s.rv (ix2 n 0) = s.sel (ix2 n 0)

theorem sel_olt {S : Shape} {α : Type} (g v : FVec Ideal S .f32) (a b : S.Idx → α) (i : S.Idx) :
    select (cmpf .olt g v) a b i = if g i < v i then a i else b i := select_olt (g i) (v i) (a i) (b i)

theorem rbv_apply (g : FVec Ideal S576x1 .f32) (i : S576x1.Idx) : rbv g i = g i := rfl

theorem StOk.joinv {f : ℕ → EReal} {n : Fin 576} {r hi : ℕ} {s : St Ideal} {w : FVec Ideal S576x128 .f32 × IVec S576x128 32} (h : StOk f n r s)
    (hw : IsArg f r hi (gminv w (ix2 n 0)) (gidxv w (ix2 n 0)).toNat) : StOk f n hi (joinv s w) := by
  obtain ⟨h1, h2⟩ := h
  have hj := h1.join hw
  have e1 : (Cert.Proof.joinv s w).sel (ix2 n 0) = if gminv w (ix2 n 0) < s.sel (ix2 n 0) then gminv w (ix2 n 0) else s.sel (ix2 n 0) := by
    exact (sel_olt (gminv w) s.rv (gminv w) s.sel (ix2 n 0)).trans (by rw [h2])
  have e2 : (Cert.Proof.joinv s w).rv (ix2 n 0) = if gminv w (ix2 n 0) < s.sel (ix2 n 0) then gminv w (ix2 n 0) else s.sel (ix2 n 0) := by
    exact (sel_olt (gminv w) s.rv (rbv (gminv w)) s.rv (ix2 n 0)).trans (by rw [h2, rbv_apply])
  have e3 : (Cert.Proof.joinv s w).ri (ix2 n 0) = if gminv w (ix2 n 0) < s.sel (ix2 n 0) then gidxv w (ix2 n 0) else s.ri (ix2 n 0) := by
    exact (sel_olt (gminv w) s.rv (gidxv w) s.ri (ix2 n 0)).trans (by rw [h2])
  refine ⟨?_, e2.trans e1.symm⟩
  rw [e1, e3]
  by_cases hlt : gminv w (ix2 n 0) < s.sel (ix2 n 0)
  · simp only [if_pos hlt] at hj ⊢; exact hj
  · simp only [if_neg hlt] at hj ⊢; exact hj

set_option maxRecDepth 100000 in
theorem startv_ok {f : ℕ → EReal} {n : Fin 576} {hi : ℕ} {w : FVec Ideal S576x128 .f32 × IVec S576x128 32}
    (hw : IsArg f 0 hi (gminv w (ix2 n 0)) (gidxv w (ix2 n 0)).toNat) : StOk f n hi (startv (F := Ideal) w) :=
  ⟨hw, rbv_apply (gminv (F := Ideal) w) (ix2 n 0)⟩

/-- The distances of token `n` of the block from every row of the codebook. -/
def dall (z : FVec Ideal S576x64 .f32) (zn : FVec Ideal S576x1 .f32) (c : Fin 4 → Vec Ideal S2048x64 .f32) (n : Fin 576) (j : ℕ) : EReal :=
  if h : j / 2048 < 4 then dk zn (k0_pay51 (c ⟨j / 2048, h⟩)) (k0_pay52 z (c ⟨j / 2048, h⟩)) n (j % 2048) else 0

theorem dall_win (z : FVec Ideal S576x64 .f32) (zn : FVec Ideal S576x1 .f32) (c : Fin 4 → Vec Ideal S2048x64 .f32) (n : Fin 576) (w : Fin 4) (j : ℕ)
    (hj : j < 2048) : dall z zn c n (2048 * w.val + j) = dk zn (k0_pay51 (c w)) (k0_pay52 z (c w)) n j := by
  have hw := w.isLt
  have e : (2048 * w.val + j) / 2048 = w.val := by omega
  unfold dall
  rw [dif_pos (by omega)]
  have e' : (2048 * w.val + j) % 2048 = j := by omega
  have e'' : (⟨(2048 * w.val + j) / 2048, by omega⟩ : Fin 4) = w := Fin.ext e
  rw [e', e'']

theorem specv_ok (v3 : Vec Ideal S1x768x576 .f32) (v5 : Vec Ideal S768x64 .f32) (v7 : Vec Ideal S1x64 .f32) (c : Fin 4 → Vec Ideal S2048x64 .f32) (n : Fin 576) :
    StOk (dall (k0_pay4 v3 v5 v7) (k0_pay5 v3 v5 v7) c n) n 8192 (specv v3 v5 v7 (c 0) (c 1) (c 2) (c 3)) := by
  have hw : ∀ (w : Fin 4) (r : ℕ), r = 2048 * w.val → r + 2048 ≤ 8192 → IsArg (dall (k0_pay4 v3 v5 v7) (k0_pay5 v3 v5 v7) c n) r (r + 2048)
      (gminv (winv (k0_pay5 v3 v5 v7) (k0_pay51 (c w)) (k0_pay52 (k0_pay4 v3 v5 v7) (c w)) r) (ix2 n 0))
      (gidxv (winv (k0_pay5 v3 v5 v7) (k0_pay51 (c w)) (k0_pay52 (k0_pay4 v3 v5 v7) (c w)) r) (ix2 n 0)).toNat := by
    rintro w r rfl hr
    exact winv_arg _ _ _ _ hr _ n fun j hj => dall_win _ _ _ _ w j hj
  have s0 : StOk (dall (k0_pay4 v3 v5 v7) (k0_pay5 v3 v5 v7) c n) n 2048
      (startv (winv (k0_pay5 v3 v5 v7) (k0_pay51 (c 0)) (k0_pay52 (k0_pay4 v3 v5 v7) (c 0)) 0)) := startv_ok (hw 0 0 rfl (by omega))
  exact ((s0.joinv (hw 1 2048 rfl (by omega))).joinv (hw 2 4096 rfl (by omega))).joinv (hw 3 6144 rfl (by omega))

end Cert.Proof

end
-- ==== Proof.Codes.lean ====
/-
  The codes at the ideal instance: each is the first row of the codebook at the least distance, hence a row number; and
  the program's run with its arguments unchanged.
-/
module

public import proofs.«01_k».proof.Proof.Ends
public import proofs.«01_k».proof.Proof.Dist

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.ShloMosaic.SparseCore (T)
open Idealize.ShloMosaic.Pipeline (ucRefs)
open Idealize.SL.Sem

section Generic

variable {F : FTy → Type} [FloatOps F]

/-- The codebook's four windows. -/
def cw (e : Vec F S8192x64 .f32) : Fin 4 → Vec F S2048x64 .f32 :=
  fun | 0 => win e 0 inb_S8192x64_S2048x64_0_0 | 1 => win e 2048 inb_S8192x64_S2048x64_2048_0
      | 2 => win e 4096 inb_S8192x64_S2048x64_4096_0 | 3 => win e 6144 inb_S8192x64_S2048x64_6144_0

theorem asgOf_eq (x : Vec F S1x768x576 .f32) (w : Vec F S768x64 .f32) (b : Vec F S1x64 .f32) (e : Vec F S8192x64 .f32) :
    asgOf x w b e = ((specv x w b (cw e 0) (cw e 1) (cw e 2) (cw e 3)).sel,
      shapeCast S1x1x576 (shapeCast S576 (specv x w b (cw e 0) (cw e 1) (cw e 2) (cw e 3)).ri shapeCasts_S576x1_S576) shapeCasts_S576_S1x1x576) :=
  asgRes_eq x w b _ _ _ _

theorem asg_fst (x : Vec F S1x768x576 .f32) (w : Vec F S768x64 .f32) (b : Vec F S1x64 .f32) (e : Vec F S8192x64 .f32) :
    (asgOf x w b e).1 = (specv x w b (cw e 0) (cw e 1) (cw e 2) (cw e 3)).sel := by rw [asgOf_eq]

theorem asg_snd (x : Vec F S1x768x576 .f32) (w : Vec F S768x64 .f32) (b : Vec F S1x64 .f32) (e : Vec F S8192x64 .f32) (n : Fin 576) :
    (asgOf x w b e).2 (ix3 0 0 n) = (specv x w b (cw e 0) (cw e 1) (cw e 2) (cw e 3)).ri (ix2 n 0) := by
  rw [asgOf_eq]
  dsimp only
  refine Eq.trans (shapeCast_apply (s := S576) (t := S1x1x576) _ _ (ix3 0 0 n) (ix1 n) ?_)
    (shapeCast_apply (s := S576x1) (t := S576) _ _ (ix1 n) (ix2 n 0) ?_)
  · rw [Shape.rowMajor_val_three, Shape.rowMajor_val_one]
    show n.val = (0 * 1 + 0) * 576 + n.val
    omega
  · rw [Shape.rowMajor_val_two, Shape.rowMajor_val_one]
    show n.val * 1 + 0 = n.val
    omega

end Generic

/-- The distances of token `n` of a block, by codebook row. -/
def distB (x : Vec Ideal S1x768x576 .f32) (w : Vec Ideal S768x64 .f32) (b : Vec Ideal S1x64 .f32) (e : Vec Ideal S8192x64 .f32) (n : Fin 576) : ℕ → EReal :=
  dall (k0_pay4 x w b) (k0_pay5 x w b) (cw e) n

/-- A block's smallest distances and codes. -/
theorem asg_arg (x : Vec Ideal S1x768x576 .f32) (w : Vec Ideal S768x64 .f32) (b : Vec Ideal S1x64 .f32) (e : Vec Ideal S8192x64 .f32) (n : Fin 576) :
    IsArg (distB x w b e n) 0 8192 ((asgOf x w b e).1 (ix2 n 0)) ((asgOf x w b e).2 (ix3 0 0 n)).toNat := by
  rw [asg_fst, asg_snd]
  exact (specv_ok x w b (cw e) n).1

theorem codes_lt (V : Valuation τ sig (Elt Ideal)) (i : S16x1x576.Idx) : (codesG V i).toNat < 8192 :=
  (asg_arg _ _ _ _ _).2.1

theorem rows_lt (U : Valuation τ sig (Elt Ideal)) (d : Dev nD) (x) : (Vc U d rI x : BitVec 32).toNat < 8192 := by
  rw [Vc_v3]
  exact codes_lt _ _

instance (e : EltTy) : Nonempty (Elt Ideal e) := by
  cases e
  case fp8e4m3 | fp8e5m2 | bf16 | f16 | f32 => exact ⟨(0 : EReal)⟩
  all_goals exact ⟨0#_⟩

/-- The run: every buffer ends at the fold of the steps. -/
theorem run_ideal (m : (ℓ : Loc nD τ sig) → Buf (Elt Ideal) ℓ) (g : Dev nD → PrngReg) :
    θ_run (defs (F := Ideal)) (threads (F := Ideal)) ⟨m, fun _ => 0, g⟩ (QC m) :=
  run_main m g fun d x => rows_lt _ _ _

end Cert.Proof

end
-- ==== Proof.RefRun.lean ====
/-
  The reference's run: its host operations as one line in five parts, what each part leaves in the buffers the next
  ones read, and the arguments, which no operation writes.
-/
module

public import proofs.«01_k».proof.Proof.Gen.ReferenceIdeal
public import Idealize.ShloMosaic.Lib.StableHlo.Run
public import Idealize.ShloMosaic.Lib.Quiescent

@[expose] public section

noncomputable section

namespace Cert.Proof.R

open Cert.ReferenceIdeal Cert.ReferenceIdeal.Gen
open Idealize.ShloMosaic Idealize.ShloMosaic.TcCoe Idealize.ShloMosaic.StableHlo Idealize.SL.Sem

variable {F : FTy → Type} [FloatOps F]

/-! ## The operations -/

/-- Part A of the reference's operations. -/
abbrev opsA : List (HloOp τ sig (Elt F)) :=
  [ unary main_arg0 main_v0 ((transpose S16x576x768 [0, 2, 1] · transposes_S16x768x576_S16x576x768_0_2_1) : (⟨S16x768x576, .f32⟩ : BufTy).Contents (Elt F) → (⟨S16x576x768, .f32⟩ : BufTy).Contents (Elt F)),
    binary main_v0 main_arg1 main_v1 ((fun l r => Host.dotGeneral dot_S16x576x768_S768x64_S16x576x64_2_0_01_1_n_n none l r) : (⟨S16x576x768, .f32⟩ : BufTy).Contents (Elt F) → (⟨S768x64, .f32⟩ : BufTy).Contents (Elt F) → (⟨S16x576x64, .f32⟩ : BufTy).Contents (Elt F)),
    unary main_arg2 main_v2 (broadcastInDim S1x1x64 ![2] bcast_S64_S1x1x64_2 : (⟨S64, .f32⟩ : BufTy).Contents (Elt F) → (⟨S1x1x64, .f32⟩ : BufTy).Contents (Elt F)),
    unary main_v2 main_v3 (broadcastInDim S16x576x64 ![0, 1, 2] bcast_S1x1x64_S16x576x64_0_1_2 : (⟨S1x1x64, .f32⟩ : BufTy).Contents (Elt F) → (⟨S16x576x64, .f32⟩ : BufTy).Contents (Elt F)),
    binary main_v1 main_v3 main_v4 (addf : (⟨S16x576x64, .f32⟩ : BufTy).Contents (Elt F) → (⟨S16x576x64, .f32⟩ : BufTy).Contents (Elt F) → (⟨S16x576x64, .f32⟩ : BufTy).Contents (Elt F)),
    reshape main_v4 main_v5 (rfl : (.f32 : EltTy) = .f32) shapeCasts_S16x576x64_S9216x64 ]

theorem subA : (opsA : List (HloOp τ sig (Elt F))).Forall fun op => op.bufs ⊆ tcRefs τ sig :=
  ⟨unary_bufs_sub .., binary_bufs_sub .., unary_bufs_sub .., unary_bufs_sub .., binary_bufs_sub .., reshape_bufs_sub ..⟩

/-- Part B of the reference's operations. -/
abbrev opsB : List (HloOp τ sig (Elt F)) :=
  [ binary main_v5 main_v5 main_v6 (mulf : (⟨S9216x64, .f32⟩ : BufTy).Contents (Elt F) → (⟨S9216x64, .f32⟩ : BufTy).Contents (Elt F) → (⟨S9216x64, .f32⟩ : BufTy).Contents (Elt F)),
    nullary main_cst (constant S_ .f32 0x00000000#32),
    binary main_v6 main_cst main_v7 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v7 main_v8 (broadcastInDim S9216x1 ![0] bcast_S9216_S9216x1_0 : (⟨S9216, .f32⟩ : BufTy).Contents (Elt F) → (⟨S9216x1, .f32⟩ : BufTy).Contents (Elt F)),
    unary main_arg5 main_v9 ((transpose S64x8192 [1, 0] · transposes_S8192x64_S64x8192_1_0) : (⟨S8192x64, .f32⟩ : BufTy).Contents (Elt F) → (⟨S64x8192, .f32⟩ : BufTy).Contents (Elt F)),
    binary main_v5 main_v9 main_v10 ((fun l r => Host.dotGeneral dot_S9216x64_S64x8192_S9216x8192_1_0_0_1_n_n none l r) : (⟨S9216x64, .f32⟩ : BufTy).Contents (Elt F) → (⟨S64x8192, .f32⟩ : BufTy).Contents (Elt F) → (⟨S9216x8192, .f32⟩ : BufTy).Contents (Elt F)),
    nullary main_cst_0 (constant S_ .f32 0x40000000#32),
    unary main_cst_0 main_v11 (broadcastInDim S9216x8192 ![] bcast_S_S9216x8192 : (⟨S_, .f32⟩ : BufTy).Contents (Elt F) → (⟨S9216x8192, .f32⟩ : BufTy).Contents (Elt F)),
    binary main_v11 main_v10 main_v12 (mulf : (⟨S9216x8192, .f32⟩ : BufTy).Contents (Elt F) → (⟨S9216x8192, .f32⟩ : BufTy).Contents (Elt F) → (⟨S9216x8192, .f32⟩ : BufTy).Contents (Elt F)),
    unary main_v8 main_v13 (broadcastInDim S9216x8192 ![0, 1] bcast_S9216x1_S9216x8192_0_1 : (⟨S9216x1, .f32⟩ : BufTy).Contents (Elt F) → (⟨S9216x8192, .f32⟩ : BufTy).Contents (Elt F)),
    binary main_v13 main_v12 main_v14 (subf : (⟨S9216x8192, .f32⟩ : BufTy).Contents (Elt F) → (⟨S9216x8192, .f32⟩ : BufTy).Contents (Elt F) → (⟨S9216x8192, .f32⟩ : BufTy).Contents (Elt F)),
    binary main_arg5 main_arg5 main_v15 (mulf : (⟨S8192x64, .f32⟩ : BufTy).Contents (Elt F) → (⟨S8192x64, .f32⟩ : BufTy).Contents (Elt F) → (⟨S8192x64, .f32⟩ : BufTy).Contents (Elt F)),
    nullary main_cst_1 (constant S_ .f32 0x00000000#32),
    binary main_v15 main_cst_1 main_v16 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v16 main_v17 (broadcastInDim S1x8192 ![1] bcast_S8192_S1x8192_1 : (⟨S8192, .f32⟩ : BufTy).Contents (Elt F) → (⟨S1x8192, .f32⟩ : BufTy).Contents (Elt F)),
    unary main_v17 main_v18 (broadcastInDim S9216x8192 ![0, 1] bcast_S1x8192_S9216x8192_0_1 : (⟨S1x8192, .f32⟩ : BufTy).Contents (Elt F) → (⟨S9216x8192, .f32⟩ : BufTy).Contents (Elt F)),
    binary main_v14 main_v18 main_v19 (addf : (⟨S9216x8192, .f32⟩ : BufTy).Contents (Elt F) → (⟨S9216x8192, .f32⟩ : BufTy).Contents (Elt F) → (⟨S9216x8192, .f32⟩ : BufTy).Contents (Elt F)) ]

theorem subB : (opsB : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- Part C of the reference's operations. -/
abbrev opsC : List (HloOp τ sig (Elt F)) :=
  [ nullary main_call0_v0 (iotaInDim S9216x8192 32 1),
    nullary main_call0_cst (constant S_ .f32 0x7F800000#32),
    nullary main_call0_c (constantI S_ 32 0#32),
    quaternary main_v19 main_call0_v0 main_call0_cst main_call0_c main_call0_v1_0 (fun x y u v j => (Host.argReduce reducer_argmin_f32_i32 x y u v reducesTo_S9216x8192_S9216_d1 h_S_ j).1),
    quaternary main_v19 main_call0_v0 main_call0_cst main_call0_c main_v20 (fun x y u v j => (Host.argReduce reducer_argmin_f32_i32 x y u v reducesTo_S9216x8192_S9216_d1 h_S_ j).2) ]

theorem subC : (opsC : List (HloOp τ sig (Elt F))).Forall fun op => op.bufs ⊆ tcRefs τ sig :=
  ⟨nullary_bufs_sub .., nullary_bufs_sub .., nullary_bufs_sub .., quaternary_bufs_sub .., quaternary_bufs_sub ..⟩

/-- Part D of the reference's operations. -/
abbrev opsD : List (HloOp τ sig (Elt F)) :=
  [ nullary main_call1_c (constantI S_ 32 0#32),
    unary main_call1_c main_call1_v0 (broadcastInDim S9216 ![] bcast_S_S9216),
    binary main_v20 main_call1_v0 main_call1_v1 (cmpi .slt),
    nullary main_call1_c_0 (constantI S_ 32 8192#32),
    unary main_call1_c_0 main_call1_v2 (broadcastInDim S9216 ![] bcast_S_S9216),
    binary main_v20 main_call1_v2 main_call1_v3 addi,
    ternary main_call1_v1 main_call1_v3 main_v20 main_call1_v4 select,
    unary main_call1_v4 main_call1_v5 (broadcastInDim S9216x1 ![0] bcast_S9216_S9216x1_0),
    nullary main_call1_c_1 (constantI S1 32 8191#32),
    nullary main_call1_c_2 (constantI S_ 32 0#32),
    unary main_call1_c_2 main_call1_v6 (broadcastInDim S9216x1 ![] bcast_S_S9216x1),
    binary main_call1_v5 main_call1_v6 main_call1_v7 (cmpi .sge),
    unary main_call1_c_1 main_call1_v8 (broadcastInDim S1x1 ![1] bcast_S1_S1x1_1),
    unary main_call1_v8 main_call1_v9 (broadcastInDim S9216x1 ![0, 1] bcast_S1x1_S9216x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S9216x1_S9216_d1 h_S_),
    binary main_arg5 main_call1_v5 main_call1_v13 (fun x i => Host.gather gather_S8192x64_S9216x1_S9216x64_1_0_n_n_0_1_164 x i),
    unary main_call1_v12 main_call1_v14 (broadcastInDim S9216x64 ![0] bcast_S9216_S9216x64_0),
    nullary main_call1_cst (constant S_ .f32 0x7FC00000#32),
    unary main_call1_cst main_call1_v15 (broadcastInDim S9216x64 ![] bcast_S_S9216x64),
    ternary main_call1_v14 main_call1_v13 main_call1_v15 main_v21 select ]

theorem subD : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Part E of the reference's operations. -/
abbrev opsE : List (HloOp τ sig (Elt F)) :=
  [ binary main_v21 main_v5 main_v22 (subf : (⟨S9216x64, .f32⟩ : BufTy).Contents (Elt F) → (⟨S9216x64, .f32⟩ : BufTy).Contents (Elt F) → (⟨S9216x64, .f32⟩ : BufTy).Contents (Elt F)),
    binary main_v22 main_v22 main_v23 (mulf : (⟨S9216x64, .f32⟩ : BufTy).Contents (Elt F) → (⟨S9216x64, .f32⟩ : BufTy).Contents (Elt F) → (⟨S9216x64, .f32⟩ : BufTy).Contents (Elt F)),
    nullary main_cst_2 (constant S_ .f32 0x00000000#32),
    binary main_v23 main_cst_2 main_v24 ((fun x v => Host.reduceAdd x v reducesTo_S9216x64_S_d0_1 h_S_) : (⟨S9216x64, .f32⟩ : BufTy).Contents (Elt F) → (⟨S_, .f32⟩ : BufTy).Contents (Elt F) → (⟨S_, .f32⟩ : BufTy).Contents (Elt F)),
    nullary main_cst_3 (constant S_ .f32 0x49100000#32),
    binary main_v24 main_cst_3 main_v25 (Host.divf : (⟨S_, .f32⟩ : BufTy).Contents (Elt F) → (⟨S_, .f32⟩ : BufTy).Contents (Elt F) → (⟨S_, .f32⟩ : BufTy).Contents (Elt F)),
    binary main_v21 main_v5 main_v26 (subf : (⟨S9216x64, .f32⟩ : BufTy).Contents (Elt F) → (⟨S9216x64, .f32⟩ : BufTy).Contents (Elt F) → (⟨S9216x64, .f32⟩ : BufTy).Contents (Elt F)),
    binary main_v5 main_v26 main_v27 (addf : (⟨S9216x64, .f32⟩ : BufTy).Contents (Elt F) → (⟨S9216x64, .f32⟩ : BufTy).Contents (Elt F) → (⟨S9216x64, .f32⟩ : BufTy).Contents (Elt F)),
    reshape main_v27 main_v28 (rfl : (.f32 : EltTy) = .f32) shapeCasts_S9216x64_S16x576x64,
    binary main_v28 main_arg3 main_v29 ((fun l r => Host.dotGeneral dot_S16x576x64_S64x768_S16x576x768_2_0_01_1_n_n none l r) : (⟨S16x576x64, .f32⟩ : BufTy).Contents (Elt F) → (⟨S64x768, .f32⟩ : BufTy).Contents (Elt F) → (⟨S16x576x768, .f32⟩ : BufTy).Contents (Elt F)),
    unary main_arg4 main_v30 (broadcastInDim S1x1x768 ![2] bcast_S768_S1x1x768_2 : (⟨S768, .f32⟩ : BufTy).Contents (Elt F) → (⟨S1x1x768, .f32⟩ : BufTy).Contents (Elt F)),
    unary main_v30 main_v31 (broadcastInDim S16x576x768 ![0, 1, 2] bcast_S1x1x768_S16x576x768_0_1_2 : (⟨S1x1x768, .f32⟩ : BufTy).Contents (Elt F) → (⟨S16x576x768, .f32⟩ : BufTy).Contents (Elt F)),
    binary main_v29 main_v31 main_v32 (addf : (⟨S16x576x768, .f32⟩ : BufTy).Contents (Elt F) → (⟨S16x576x768, .f32⟩ : BufTy).Contents (Elt F) → (⟨S16x576x768, .f32⟩ : BufTy).Contents (Elt F)),
    unary main_v32 main_v33 ((transpose S16x768x576 [0, 2, 1] · transposes_S16x576x768_S16x768x576_0_2_1) : (⟨S16x576x768, .f32⟩ : BufTy).Contents (Elt F) → (⟨S16x768x576, .f32⟩ : BufTy).Contents (Elt F)),
    reshape main_v20 main_v34 (rfl : (.i32 : EltTy) = .i32) shapeCasts_S9216_S16x576 ]

theorem subE : (opsE : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., reshape_bufs_sub .., binary_bufs_sub .., unary_bufs_sub .., unary_bufs_sub .., binary_bufs_sub .., unary_bufs_sub .., reshape_bufs_sub ..⟩

/-! ## What the parts compute -/

/-- The latents, a row per token. -/
def rz (x : FVec F S16x768x576 .f32) (w : FVec F S768x64 .f32) (b : FVec F S64 .f32) : FVec F S9216x64 .f32 :=
  shapeCast S9216x64 (addf (Host.dotGeneral dot_S16x576x768_S768x64_S16x576x64_2_0_01_1_n_n none
      (transpose S16x576x768 [0, 2, 1] x transposes_S16x768x576_S16x576x768_0_2_1) w)
    (broadcastInDim S16x576x64 ![0, 1, 2] bcast_S1x1x64_S16x576x64_0_1_2
      (broadcastInDim S1x1x64 ![2] bcast_S64_S1x1x64_2 b))) shapeCasts_S16x576x64_S9216x64

/-- The squared distances of the rows of `z` to the rows of `e`. -/
def rdist (z : FVec F S9216x64 .f32) (e : FVec F S8192x64 .f32) : FVec F S9216x8192 .f32 :=
  addf (subf
      (broadcastInDim S9216x8192 ![0, 1] bcast_S9216x1_S9216x8192_0_1
        (broadcastInDim S9216x1 ![0] bcast_S9216_S9216x1_0
          (Host.reduceAdd (mulf z z) (constant S_ .f32 0x00000000#32) reducesTo_S9216x64_S9216_d1 h_S_)))
      (mulf (broadcastInDim S9216x8192 ![] bcast_S_S9216x8192 (constant S_ .f32 0x40000000#32))
        (Host.dotGeneral dot_S9216x64_S64x8192_S9216x8192_1_0_0_1_n_n none z
          (transpose S64x8192 [1, 0] e transposes_S8192x64_S64x8192_1_0))))
    (broadcastInDim S9216x8192 ![0, 1] bcast_S1x8192_S9216x8192_0_1
      (broadcastInDim S1x8192 ![1] bcast_S8192_S1x8192_1
        (Host.reduceAdd (mulf e e) (constant S_ .f32 0x00000000#32) reducesTo_S8192x64_S8192_d1 h_S_)))

/-- The row of the least distance. -/
def rarg (d : FVec F S9216x8192 .f32) : IVec S9216 32 := fun j =>
  (Host.argReduce reducer_argmin_f32_i32 d (iotaInDim S9216x8192 32 1) (constant S_ .f32 0x7F800000#32) (constantI S_ 32 0#32)
    reducesTo_S9216x8192_S9216_d1 h_S_ j).2

/-- The indices wrapped round where they are negative, as a column. -/
def rwrap (i : IVec S9216 32) : IVec S9216x1 32 :=
  broadcastInDim S9216x1 ![0] bcast_S9216_S9216x1_0
    (select (cmpi .slt i (broadcastInDim S9216 ![] bcast_S_S9216 (constantI S_ 32 0#32)))
      (addi i (broadcastInDim S9216 ![] bcast_S_S9216 (constantI S_ 32 8192#32))) i)

/-- Whether the indices are in range. -/
def rin (i : IVec S9216x1 32) : IVec S9216 1 :=
  Host.reduce IntOp.andi
    (andi (cmpi .sge i (broadcastInDim S9216x1 ![] bcast_S_S9216x1 (constantI S_ 32 0#32)))
      (cmpi .sle i (broadcastInDim S9216x1 ![0, 1] bcast_S1x1_S9216x1_0_1
        (broadcastInDim S1x1 ![1] bcast_S1_S1x1_1 (constantI S1 32 8191#32)))))
    (constantI S_ 1 1#1) reducesTo_S9216x1_S9216_d1 h_S_

/-- The rows of `e` at the indices. -/
def rtake (e : FVec F S8192x64 .f32) (i : IVec S9216 32) : FVec F S9216x64 .f32 :=
  select (broadcastInDim S9216x64 ![0] bcast_S9216_S9216x64_0 (rin (rwrap i)))
    (Host.gather gather_S8192x64_S9216x1_S9216x64_1_0_n_n_0_1_164 e (rwrap i))
    (broadcastInDim S9216x64 ![] bcast_S_S9216x64 (constant S_ .f32 0x7FC00000#32))

/-- The loss. -/
def rloss (q z : FVec F S9216x64 .f32) : FVec F S_ .f32 :=
  Host.divf (Host.reduceAdd (mulf (subf q z) (subf q z)) (constant S_ .f32 0x00000000#32) reducesTo_S9216x64_S_d0_1 h_S_)
    (constant S_ .f32 0x49100000#32)

/-- The rows projected. -/
def rout (q z : FVec F S9216x64 .f32) (w : FVec F S64x768 .f32) (b : FVec F S768 .f32) : FVec F S16x768x576 .f32 :=
  transpose S16x768x576 [0, 2, 1]
    (addf (Host.dotGeneral dot_S16x576x64_S64x768_S16x576x768_2_0_01_1_n_n none
        (shapeCast S16x576x64 (addf z (subf q z)) shapeCasts_S9216x64_S16x576x64) w)
      (broadcastInDim S16x576x768 ![0, 1, 2] bcast_S1x1x768_S16x576x768_0_1_2
        (broadcastInDim S1x1x768 ![2] bcast_S768_S1x1x768_2 b))) transposes_S16x576x768_S16x768x576_0_2_1

/-- The codes by image. -/
def rcodes (i : IVec S9216 32) : IVec S16x576 32 := shapeCast S16x576 i shapeCasts_S9216_S16x576

/-! ## The parts' results -/

theorem A_z (V : Valuation τ sig (Elt F)) : after opsA V (main_v5 : DevRef τ sig) = rz (V (main_arg0 : DevRef τ sig)) (V (main_arg1 : DevRef τ sig)) (V (main_arg2 : DevRef τ sig)) := by
  after_results
  rfl

theorem B_dist (V : Valuation τ sig (Elt F)) : after opsB V (main_v19 : DevRef τ sig) = rdist (V (main_v5 : DevRef τ sig)) (V (main_arg5 : DevRef τ sig)) := by
  after_results
  rfl

theorem C_arg (V : Valuation τ sig (Elt F)) : after opsC V (main_v20 : DevRef τ sig) = rarg (V (main_v19 : DevRef τ sig)) := by
  after_results
  rfl

theorem D_take (V : Valuation τ sig (Elt F)) : after opsD V (main_v21 : DevRef τ sig) = rtake (V (main_arg5 : DevRef τ sig)) (V (main_v20 : DevRef τ sig)) := by
  after_results
  rfl

theorem E_loss (V : Valuation τ sig (Elt F)) : after opsE V (main_v25 : DevRef τ sig) = rloss (V (main_v21 : DevRef τ sig)) (V (main_v5 : DevRef τ sig)) := by
  after_results
  rfl

theorem E_out (V : Valuation τ sig (Elt F)) : after opsE V (main_v33 : DevRef τ sig) = rout (V (main_v21 : DevRef τ sig)) (V (main_v5 : DevRef τ sig)) (V (main_arg3 : DevRef τ sig)) (V (main_arg4 : DevRef τ sig)) := by
  after_results
  rfl

theorem E_codes (V : Valuation τ sig (Elt F)) : after opsE V (main_v34 : DevRef τ sig) = rcodes (V (main_v20 : DevRef τ sig)) := by
  after_results
  rfl

/-- What part A writes. -/
abbrev wrA : List (Ref sig .tc) := [main_v0, main_v1, main_v2, main_v3, main_v4, main_v5]

theorem A_keep (V : Valuation τ sig (Elt F)) (r : Ref sig .tc) (h : r ∉ wrA) : after opsA V (r : DevRef τ sig) = V (r : DevRef τ sig) :=
  after_of_writes_sub opsA V (forall_writes_sub_of_map rfl) h

/-- What part B writes. -/
abbrev wrB : List (Ref sig .tc) := [main_v6, main_cst, main_v7, main_v8, main_v9, main_v10, main_cst_0, main_v11, main_v12, main_v13, main_v14, main_v15, main_cst_1, main_v16, main_v17, main_v18, main_v19]

theorem B_keep (V : Valuation τ sig (Elt F)) (r : Ref sig .tc) (h : r ∉ wrB) : after opsB V (r : DevRef τ sig) = V (r : DevRef τ sig) :=
  after_of_writes_sub opsB V (forall_writes_sub_of_map rfl) h

/-- What part C writes. -/
abbrev wrC : List (Ref sig .tc) := [main_call0_v0, main_call0_cst, main_call0_c, main_call0_v1_0, main_v20]

theorem C_keep (V : Valuation τ sig (Elt F)) (r : Ref sig .tc) (h : r ∉ wrC) : after opsC V (r : DevRef τ sig) = V (r : DevRef τ sig) :=
  after_of_writes_sub opsC V (forall_writes_sub_of_map rfl) h

/-- What part D writes. -/
abbrev wrD : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v21]

theorem D_keep (V : Valuation τ sig (Elt F)) (r : Ref sig .tc) (h : r ∉ wrD) : after opsD V (r : DevRef τ sig) = V (r : DevRef τ sig) :=
  after_of_writes_sub opsD V (forall_writes_sub_of_map rfl) h

/-- What part E writes. -/
abbrev wrE : List (Ref sig .tc) := [main_v22, main_v23, main_cst_2, main_v24, main_cst_3, main_v25, main_v26, main_v27, main_v28, main_v29, main_v30, main_v31, main_v32, main_v33, main_v34]

theorem E_keep (V : Valuation τ sig (Elt F)) (r : Ref sig .tc) (h : r ∉ wrE) : after opsE V (r : DevRef τ sig) = V (r : DevRef τ sig) :=
  after_of_writes_sub opsE V (forall_writes_sub_of_map rfl) h

/-! ## The run -/

/-- The whole line. -/
abbrev ops : List (HloOp τ sig (Elt F)) := opsA ++ (opsB ++ (opsC ++ (opsD ++ opsE)))

theorem after_two (a b : List (HloOp τ sig (Elt F))) (V : Valuation τ sig (Elt F)) : after (a ++ b) V = after b (after a V) := by
  induction a generalizing V with
  | nil => rfl
  | cons op a ih => exact ih _

theorem after_ops (V : Valuation τ sig (Elt F)) :
    after ops V = after opsE (after opsD (after opsC (after opsB (after opsA V)))) := by
  simp only [ops, after_two]

set_option maxRecDepth 100000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_two {P : HloOp τ sig (Elt F) → Prop} {a b : List (HloOp τ sig (Elt F))} (ha : a.Forall P) (hb : b.Forall P) :
    (a ++ b).Forall P := by
  rw [List.forall_iff_forall_mem] at *
  intro o ho
  rcases List.mem_append.mp ho with h | h
  · exact ha o h
  · exact hb o h

theorem ops_sub : (ops : List (HloOp τ sig (Elt F))).Forall fun op => op.bufs ⊆ tcRefs τ sig :=
  forall_two subA (forall_two subB (forall_two subC (forall_two subD subE)))

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The latents, the indices and the rows taken, of the launch's contents. -/
def zOf (V : Valuation τ sig (Elt F)) : FVec F S9216x64 .f32 :=
  rz (V (main_arg0 : DevRef τ sig)) (V (main_arg1 : DevRef τ sig)) (V (main_arg2 : DevRef τ sig))
@[inherit_doc zOf]
def iOf (V : Valuation τ sig (Elt F)) : IVec S9216 32 := rarg (rdist (zOf V) (V (main_arg5 : DevRef τ sig)))
@[inherit_doc zOf]
def qOf (V : Valuation τ sig (Elt F)) : FVec F S9216x64 .f32 := rtake (V (main_arg5 : DevRef τ sig)) (iOf V)

theorem z_eq (V : Valuation τ sig (Elt F)) : after ops V (main_v5 : DevRef τ sig) = zOf V := by
  rw [after_ops, E_keep _ main_v5 (by decide), D_keep _ main_v5 (by decide), C_keep _ main_v5 (by decide), B_keep _ main_v5 (by decide), A_z]
  rfl

theorem i_eq (V : Valuation τ sig (Elt F)) : (after opsC (after opsB (after opsA V))) (main_v20 : DevRef τ sig) = iOf V := by
  rw [C_arg, B_dist, A_z, A_keep _ main_arg5 (by decide)]
  rfl

theorem z_eq4 (V : Valuation τ sig (Elt F)) : (after opsD (after opsC (after opsB (after opsA V)))) (main_v5 : DevRef τ sig) = zOf V := by
  rw [D_keep _ main_v5 (by decide), C_keep _ main_v5 (by decide), B_keep _ main_v5 (by decide), A_z]
  rfl

theorem q_eq (V : Valuation τ sig (Elt F)) : (after opsD (after opsC (after opsB (after opsA V)))) (main_v21 : DevRef τ sig) = qOf V := by
  rw [D_take, i_eq, C_keep _ main_arg5 (by decide), B_keep _ main_arg5 (by decide), A_keep _ main_arg5 (by decide)]
  rfl

theorem out_eq (V : Valuation τ sig (Elt F)) : after ops V (main_v33 : DevRef τ sig) = rout (qOf V) (zOf V) (V (main_arg3 : DevRef τ sig)) (V (main_arg4 : DevRef τ sig)) := by
  rw [after_ops, E_out, q_eq, z_eq4, D_keep _ main_arg3 (by decide), C_keep _ main_arg3 (by decide), B_keep _ main_arg3 (by decide), A_keep _ main_arg3 (by decide), D_keep _ main_arg4 (by decide), C_keep _ main_arg4 (by decide), B_keep _ main_arg4 (by decide), A_keep _ main_arg4 (by decide)]

theorem loss_eq (V : Valuation τ sig (Elt F)) : after ops V (main_v25 : DevRef τ sig) = rloss (qOf V) (zOf V) := by
  rw [after_ops, E_loss, q_eq, z_eq4]

theorem codes_eq (V : Valuation τ sig (Elt F)) : after ops V (main_v34 : DevRef τ sig) = rcodes (iOf V) := by
  rw [after_ops, E_codes, D_keep _ main_v20 (by decide), i_eq]

theorem arg0_eq (V : Valuation τ sig (Elt F)) : after ops V (main_arg0 : DevRef τ sig) = V (main_arg0 : DevRef τ sig) := by
  rw [after_ops, E_keep _ main_arg0 (by decide), D_keep _ main_arg0 (by decide), C_keep _ main_arg0 (by decide), B_keep _ main_arg0 (by decide), A_keep _ main_arg0 (by decide)]

theorem arg1_eq (V : Valuation τ sig (Elt F)) : after ops V (main_arg1 : DevRef τ sig) = V (main_arg1 : DevRef τ sig) := by
  rw [after_ops, E_keep _ main_arg1 (by decide), D_keep _ main_arg1 (by decide), C_keep _ main_arg1 (by decide), B_keep _ main_arg1 (by decide), A_keep _ main_arg1 (by decide)]

theorem arg2_eq (V : Valuation τ sig (Elt F)) : after ops V (main_arg2 : DevRef τ sig) = V (main_arg2 : DevRef τ sig) := by
  rw [after_ops, E_keep _ main_arg2 (by decide), D_keep _ main_arg2 (by decide), C_keep _ main_arg2 (by decide), B_keep _ main_arg2 (by decide), A_keep _ main_arg2 (by decide)]

theorem arg3_eq (V : Valuation τ sig (Elt F)) : after ops V (main_arg3 : DevRef τ sig) = V (main_arg3 : DevRef τ sig) := by
  rw [after_ops, E_keep _ main_arg3 (by decide), D_keep _ main_arg3 (by decide), C_keep _ main_arg3 (by decide), B_keep _ main_arg3 (by decide), A_keep _ main_arg3 (by decide)]

theorem arg4_eq (V : Valuation τ sig (Elt F)) : after ops V (main_arg4 : DevRef τ sig) = V (main_arg4 : DevRef τ sig) := by
  rw [after_ops, E_keep _ main_arg4 (by decide), D_keep _ main_arg4 (by decide), C_keep _ main_arg4 (by decide), B_keep _ main_arg4 (by decide), A_keep _ main_arg4 (by decide)]

theorem arg5_eq (V : Valuation τ sig (Elt F)) : after ops V (main_arg5 : DevRef τ sig) = V (main_arg5 : DevRef τ sig) := by
  rw [after_ops, E_keep _ main_arg5 (by decide), D_keep _ main_arg5 (by decide), C_keep _ main_arg5 (by decide), B_keep _ main_arg5 (by decide), A_keep _ main_arg5 (by decide)]

theorem sem_zero (s : MemSt nD τ sig (Elt F)) : s.sem = fun _ => 0 := sem_eq_zero_of_no_sems (by decide) s

end Cert.Proof.R

end
-- ==== Proof.Frames.lean ====
/-
  The two programs' frames: each runs to its end, its arguments as they were and every semaphore counter at zero.
-/
module

public import proofs.«01_k».proof.Defs
public import proofs.«01_k».proof.Proof.Codes
public import proofs.«01_k».proof.Proof.RefRun
public import Idealize.ShloMosaic.Lib.StableHlo.RunHlo

@[expose] public section

noncomputable section

namespace Cert.Proof

open Idealize.ShloMosaic Idealize.ShloMosaic.TcCoe Idealize.ShloMosaic.StableHlo Idealize.SL.Sem

section Kernel

open Cert.KernelIdeal Cert.KernelIdeal.Gen
open Idealize.ShloMosaic.Pipeline (ucRefs)

/-- What a run of the program leaves in a buffer. -/
theorem QC_at {m : (ℓ : Loc nD τ sig) → Buf (Elt Ideal) ℓ} {r} (h : QC m r) (c : Dev nD) (b : Ref sig .tc)
    (hb : Proc.devRef .tc b ∈ ucRefs τ sig) : r.2.mem ((c.tc : Thread nD τ).loc b) = Vg (U0 m c) c (Proc.devRef .tc b) :=
  h.1 c _ hb

theorem QC_arg {m : (ℓ : Loc nD τ sig) → Buf (Elt Ideal) ℓ} {r} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(QC_at h c main_arg0 (by decide)).trans (Vg_arg _ _ (by decide)), (QC_at h c main_arg1 (by decide)).trans (Vg_arg _ _ (by decide)),
    (QC_at h c main_arg2 (by decide)).trans (Vg_arg _ _ (by decide)), (QC_at h c main_arg3 (by decide)).trans (Vg_arg _ _ (by decide)),
    (QC_at h c main_arg4 (by decide)).trans (Vg_arg _ _ (by decide)), (QC_at h c main_arg5 (by decide)).trans (Vg_arg _ _ (by decide))⟩

theorem frame_kernel : Cert.quiescent_KernelIdeal := fun m g _ =>
  θ_run_mono (run_ideal m g) fun _ h => ⟨fun c => QC_arg h c, h.2⟩

end Kernel

section Reference

open Cert.ReferenceIdeal Cert.ReferenceIdeal.Gen

/-- What a run of the reference leaves in its buffers. -/
def QR (m : (ℓ : Loc nD τ sig) → Buf (Elt Ideal) ℓ) (r : PUnit × MemSt nD τ sig (Elt Ideal)) : Prop :=
  ∀ (c : Dev nD) (b : Ref sig .tc), r.2.mem ((c.tc : Thread nD τ).loc b) = after R.ops (launchContents m c) (b : DevRef τ sig)

theorem QR_arg {m : (ℓ : Loc nD τ sig) → Buf (Elt Ideal) ℓ} {r} (h : QR m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c main_arg0).trans (R.arg0_eq _), (h c main_arg1).trans (R.arg1_eq _), (h c main_arg2).trans (R.arg2_eq _),
    (h c main_arg3).trans (R.arg3_eq _), (h c main_arg4).trans (R.arg4_eq _), (h c main_arg5).trans (R.arg5_eq _)⟩

theorem frame_reference : Cert.quiescent_ReferenceIdeal := fun m g _ =>
  θ_run_mono (R.run_main m g) fun r h => ⟨fun c => QR_arg h c, R.sem_zero r.2⟩

end Reference

end Cert.Proof

end
-- ==== Proof.Reals.lean ====
/-
  Finite extended reals: closed under sums, differences and products, and the identities of real arithmetic that hold
  between them - the expanded squared distance two ways, the distance as a sum of squares, and `z + (q - z) = q`.
-/
module

public import proofs.«01_k».proof.Proof.Base
public import Mathlib.Data.EReal.Operations
public import Mathlib.Tactic.Ring

@[expose] public section

noncomputable section

namespace Cert.Proof

/-- A finite extended real. -/
def IsR (a : EReal) : Prop := ∃ r : ℝ, a = (r : EReal)

theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.add {a b : EReal} (ha : IsR a) (hb : IsR b) : IsR (a + b) := by
  obtain ⟨r, rfl⟩ := ha
  obtain ⟨t, rfl⟩ := hb
  exact ⟨r + t, (EReal.coe_add r t).symm⟩

theorem IsR.mul {a b : EReal} (ha : IsR a) (hb : IsR b) : IsR (a * b) := by
  obtain ⟨r, rfl⟩ := ha
  obtain ⟨t, rfl⟩ := hb
  exact ⟨r * t, (EReal.coe_mul r t).symm⟩

theorem IsR.sum {ι : Type} (s : Finset ι) {f : ι → EReal} (h : ∀ i, IsR (f i)) : IsR (∑ i ∈ s, f i) := by
  choose r hr using h
  exact ⟨∑ i ∈ s, r i, by rw [coe_sum_real]; exact Finset.sum_congr rfl fun i _ => hr i⟩

/-- An absolute value below infinity is a finite one. -/
theorem isR_of_abs {a : EReal} (h : max a (-a) < ⊤) : IsR a := by
  induction a using EReal.rec with
  | bot => exact absurd h (by simp)
  | top => exact absurd h (by simp)
  | coe r => exact ⟨r, rfl⟩

/-- Between finite values, adding a difference gives the minuend. -/
theorem add_sub_self {z q : EReal} (hz : IsR z) (hq : IsR q) : z + (q - z) = q := by
  obtain ⟨r, rfl⟩ := hz
  obtain ⟨t, rfl⟩ := hq
  rw [← EReal.coe_sub, ← EReal.coe_add]
  exact congrArg _ (by ring)

/-- The squared distance with the factor `-2` on the row, and with `2` on the product. -/
theorem dist_two {n : ℕ} (z e : Fin n → EReal) (hz : ∀ c, IsR (z c)) (he : ∀ c, IsR (e c)) :
    (∑ c, z c * z c + ∑ c, z c * (((-2 : ℝ) : EReal) * e c)) + ∑ c, e c * e c
      = (∑ c, z c * z c - ((2 : ℝ) : EReal) * ∑ c, z c * e c) + ∑ c, e c * e c := by
  choose r hr using hz
  choose t ht using he
  simp only [hr, ht, ← EReal.coe_mul, ← coe_sum_real, ← EReal.coe_add, ← EReal.coe_sub]
  refine congrArg _ ?_
  rw [Finset.mul_sum, sub_eq_add_neg, ← Finset.sum_neg_distrib]
  refine congrArg (· + _) (congrArg (_ + ·) (Finset.sum_congr rfl fun c _ => by ring))

/-- The squared distance as a sum of squares. -/
theorem dist_sq {n : ℕ} (z e : Fin n → EReal) (hz : ∀ c, IsR (z c)) (he : ∀ c, IsR (e c)) :
    (∑ c, z c * z c + ∑ c, z c * (((-2 : ℝ) : EReal) * e c)) + ∑ c, e c * e c = ∑ c, (e c - z c) * (e c - z c) := by
  choose r hr using hz
  choose t ht using he
  simp only [hr, ht, ← EReal.coe_mul, ← coe_sum_real, ← EReal.coe_add, ← EReal.coe_sub]
  refine congrArg _ ?_
  rw [← Finset.sum_add_distrib, ← Finset.sum_add_distrib]
  exact Finset.sum_congr rfl fun c _ => by ring

end Cert.Proof

end
-- ==== Proof.KVals.lean ====
/-
  The kernels' values at an element, at the ideal instance: a block's latents, the distances of a token from the rows of
  the codebook, a block's share of the loss, and a block of the projection.
-/
module

public import proofs.«01_k».proof.Proof.Codes
public import proofs.«01_k».proof.Proof.Reals

@[expose] public section

noncomputable section

namespace Cert.Proof

open Cert.KernelIdeal Cert.KernelIdeal.Gen
open Idealize.ShloMosaic Idealize.ShloMosaic.Tactic Idealize.ShloMosaic.ValueIdx

theorem bits_neg_two : Ideal.ofBits .f32 0xC0000000#32 = ((-2 : ℝ) : EReal) := by
  have h : ((8388608 : ℝ) * ((2 : ℝ) ^ 22)⁻¹) = 2 := by norm_num
  simp [Ideal.ofBits, Ideal.ieee]
  exact_mod_cast h

/-- A sum over the index of one contracted axis is the sum over the axis. -/
theorem sum_contr {sl sr so : Shape} (D : DotDims sl sr so) (n : ℕ) (hr : D.contr.rank = 1) (hs : D.contr.size ⟨0, by omega⟩ = n)
    (f : D.contr.Idx → EReal) : ∑ k, f k = ∑ k : Fin n, f ((contrEquiv1 D n hr hs).symm k) :=
  (Equiv.sum_comp (contrEquiv1 D n hr hs).symm f).symm

theorem pay4_apply (x : Vec Ideal S1x768x576 .f32) (w : Vec Ideal S768x64 .f32) (b : Vec Ideal S1x64 .f32) (n : Fin 576) (c : Fin 64) :
    k0_pay4 x w b (ix2 n c) = (∑ k : Fin 768, x (ix3 0 k n) * w (ix2 k c)) + b (ix2 0 c) := by
  refine congrArg₂ (· + ·) ?_ ?_
  · refine (Ideal.matmul_constant_zero_apply _ _ _ _ _).trans ((sum_contr _ 768 rfl rfl _).trans (Finset.sum_congr rfl fun k _ => ?_))
    refine congrArg₂ (· * ·) ?_ ?_
    · refine Eq.trans (congrArg _ ?_) (shapeCast_1ab_ab_apply (x := x) _ k n)
      funext a
      fin_cases a <;> rfl
    · refine congrArg w ?_
      funext a
      fin_cases a <;> rfl
  · refine (broadcastTo_1b_ab_apply _ _ _ _).trans ?_
    exact shapeCast_apply _ _ _ _ rfl

theorem pay5_apply (x : Vec Ideal S1x768x576 .f32) (w : Vec Ideal S768x64 .f32) (b : Vec Ideal S1x64 .f32) (n : Fin 576) :
    k0_pay5 x w b (ix2 n 0) = ∑ c : Fin 64, k0_pay4 x w b (ix2 n c) * k0_pay4 x w b (ix2 n c) := by
  refine (shapeCast_a_a1_apply _ _ _ _).trans ((Ideal.multiReduction_add_single _ _ _ _ _ _).trans (Finset.sum_congr rfl fun c _ => ?_))
  have e : reduces_S576x64_S576.lift (ix1 n) c = ix2 n c := by
    funext a
    fin_cases a <;> rfl
  exact congrArg (fun i => k0_pay4 x w b i * k0_pay4 x w b i) e

theorem pay51_apply (e : Vec Ideal S2048x64 .f32) (j : Fin 2048) :
    k0_pay51 e (ix2 0 j) = ∑ c : Fin 64, e (ix2 j c) * e (ix2 j c) := by
  refine (shapeCast_a_1a_apply _ _ _ _).trans ((Ideal.multiReduction_add_single _ _ _ _ _ _).trans (Finset.sum_congr rfl fun c _ => ?_))
  have h : reduces_S2048x64_S2048.lift (ix1 j) c = ix2 j c := by
    funext a
    fin_cases a <;> rfl
  exact congrArg (fun i => e i * e i) h

theorem pay52_apply (z : FVec Ideal S576x64 .f32) (e : Vec Ideal S2048x64 .f32) (n : Fin 576) (j : Fin 2048) :
    k0_pay52 z e (ix2 n j) = ∑ c : Fin 64, z (ix2 n c) * (((-2 : ℝ) : EReal) * e (ix2 j c)) := by
  refine (Ideal.matmul_constant_zero_apply _ _ _ _ _).trans ((sum_contr _ 64 rfl rfl _).trans (Finset.sum_congr rfl fun c _ => ?_))
  refine congrArg₂ (· * ·) (congrArg z ?_) (congrArg₂ (· * ·) bits_neg_two (congrArg e ?_))
  · funext a
    fin_cases a <;> rfl
  · funext a
    fin_cases a <;> rfl

theorem cw_apply {F : FTy → Type} [FloatOps F] (e : Vec F S8192x64 .f32) (k : Fin 4) (j : Fin 2048) (c : Fin 64) :
    cw e k (ix2 j c) = e (ix2 ⟨2048 * k.val + j.val, by omega⟩ c) := by
  obtain ⟨k, hk⟩ := k
  interval_cases k
  all_goals
    refine congrArg e ?_
    funext a
    fin_cases a
    · refine Fin.ext ?_
      simp [cw, win, LoadRect.idx, Rect.unit]
    · refine Fin.ext ?_
      simp [cw, win, LoadRect.idx, Rect.unit]

/-- The kernel's distance of token `n` of a block from row `j` of the codebook. -/
theorem distB_apply (x : Vec Ideal S1x768x576 .f32) (w : Vec Ideal S768x64 .f32) (b : Vec Ideal S1x64 .f32) (e : Vec Ideal S8192x64 .f32)
    (n : Fin 576) (j : Fin 8192) :
    distB x w b e n j.val = ((∑ c : Fin 64, k0_pay4 x w b (ix2 n c) * k0_pay4 x w b (ix2 n c)) +
      ∑ c : Fin 64, k0_pay4 x w b (ix2 n c) * (((-2 : ℝ) : EReal) * e (ix2 j c))) + ∑ c : Fin 64, e (ix2 j c) * e (ix2 j c) := by
  have hj := j.isLt
  have h1 : j.val / 2048 < 4 := by omega
  have h2 : j.val % 2048 < 2048 := Nat.mod_lt _ (by omega)
  have hc : ∀ c : Fin 64, cw e ⟨j.val / 2048, h1⟩ (ix2 ⟨j.val % 2048, h2⟩ c) = e (ix2 j c) := fun c => by
    rw [cw_apply]
    exact congrArg e (congrArg (fun i => ix2 i c) (Fin.ext (by show 2048 * (j.val / 2048) + j.val % 2048 = j.val; omega)))
  unfold distB dall
  rw [dif_pos h1]
  unfold dk
  rw [dif_pos h2, pay5_apply, pay52_apply, pay51_apply]
  simp only [hc]

theorem pay1_apply (s : FVec Ideal S576x1 .f32) : k0_pay1 s = ∑ n : Fin 576, s (ix2 n 0) := by
  have h1 : k0_pay1 s = ∑ i : S1x576x1.Idx, shapeCast S1x576x1 s shapeCasts_S576x1_S1x576x1 i := by
    unfold k0_pay1 extractAt shapeCast
    exact Ideal.multiReduction_add_total _ _ _ (by decide) _ _ _
  rw [h1]
  refine (Equiv.sum_comp (Shape.reshapeEquiv shapeCasts_S576x1_S1x576x1) s).trans ?_
  rw [sum_idx2]
  exact Finset.sum_congr rfl fun n _ => Fin.sum_univ_one _

theorem pay2_apply (s : FVec Ideal S576x1 .f32) (p : EReal) : k0_pay2 s p = p + k0_pay1 s := rfl

theorem proj_apply (v0 : Vec Ideal S1x576x128 .f32) (v3 : Vec Ideal S64x768 .f32) (v5 : Vec Ideal S768x1 .f32) (o : Fin 768) (n : Fin 576) :
    k2_pay1 v0 v3 v5 (ix3 0 o n) = (∑ c : Fin 64, v3 (ix2 c o) * v0 (ix3 0 n (c.castLE (by decide)))) + v5 (ix2 o 0) := by
  unfold k2_pay1
  refine (shapeCast_ab_1ab_apply _ _ _ _ _).trans (congrArg₂ (· + ·) ?_ ?_)
  · refine (Ideal.matmul_constant_zero_apply _ _ _ _ _).trans ((sum_contr _ 64 rfl rfl _).trans (Finset.sum_congr rfl fun c _ => ?_))
    refine congrArg₂ (· * ·) (congrArg v3 ?_) ?_
    · funext a
      fin_cases a <;> rfl
    · refine Eq.trans (congrArg _ (?_ : _ = ix2 n c)) ?_
      · funext a
        fin_cases a <;> rfl
      · refine (extractStridedSlice_apply _ _ _ _ (ix2 n (c.castLE (by decide))) fun a => ?_).trans (shapeCast_1ab_ab_apply _ _ _ _)
        fin_cases a
        · exact (Nat.zero_add _).symm
        · exact (Nat.zero_add _).symm
  · refine (broadcastTo_apply _ _ _ (ix2 o 0) fun a => ?_).trans (shapeCast_apply _ _ _ _ rfl)
    fin_cases a <;> rfl

end Cert.Proof

end
-- ==== Proof.RVals.lean ====
/-
  The reference's values at an element, at the ideal instance: the latents, the squared distances, the row of the least
  distance, the rows taken, the loss, the projection and the codes by image.
-/
module

public import proofs.«01_k».proof.Proof.RefRun
public import proofs.«01_k».proof.Proof.KVals
public import Idealize.ShloMosaic.Lib.IdealHost
public import Idealize.ShloMosaic.Lib.ReduceAll

@[expose] public section

noncomputable section

namespace Cert.Proof.R

open Cert.ReferenceIdeal Cert.ReferenceIdeal.Gen
open Idealize.ShloMosaic Idealize.ShloMosaic.Tactic Idealize.ShloMosaic.ValueIdx

/-- The row of token `n` of image `t`. -/
def row (t : Fin 16) (n : Fin 576) : Fin 9216 := ⟨t.val * 576 + n.val, by omega⟩

theorem bits_two : Ideal.ofBits .f32 0x40000000#32 = ((2 : ℝ) : EReal) := by
  have h : ((8388608 : ℝ) * ((2 : ℝ) ^ 22)⁻¹) = 2 := by norm_num
  simp [Ideal.ofBits, Ideal.ieee]
  exact_mod_cast h

theorem rz_apply (x : FVec Ideal S16x768x576 .f32) (w : FVec Ideal S768x64 .f32) (b : FVec Ideal S64 .f32) (t : Fin 16) (n : Fin 576) (c : Fin 64) :
    rz x w b (ix2 (row t n) c) = (∑ k : Fin 768, x (ix3 t k n) * w (ix2 k c)) + b (ix1 c) := by
  unfold rz
  refine (shapeCast_apply _ _ _ (ix3 t n c) ?_).trans (congrArg₂ (· + ·) ?_ ?_)
  · rw [Shape.rowMajor_val_three, Shape.rowMajor_val_two]
    rfl
  · refine (Ideal.dotGeneral_apply _ _ _ _ _ _).trans ((sum_contr _ 768 rfl rfl _).trans (Finset.sum_congr rfl fun k _ => ?_))
    refine congrArg₂ (· * ·) ?_ (congrArg w ?_)
    · refine Eq.trans (congrArg _ (?_ : _ = ix3 t n k)) (transpose_ix3_021_apply _ _ _ _ _)
      funext a
      fin_cases a <;> rfl
    · funext a
      fin_cases a <;> rfl
  · refine (broadcastInDim_apply _ _ _ _ (ix3 0 0 c) fun a => ?_).trans (broadcastInDim_apply _ _ _ _ (ix1 c) fun a => ?_)
    · fin_cases a <;> rfl
    · fin_cases a <;> rfl

theorem sum_rows (x : FVec Ideal S9216x64 .f32) (r : Fin 9216) :
    Host.reduceAdd x (constant S_ .f32 0x00000000#32) reducesTo_S9216x64_S9216_d1 h_S_ (ix1 r) = ∑ c : Fin 64, x (ix2 r c) := by
  have h : Shape.Reduces S9216x64 [1] S9216 := by decide
  refine (Ideal.hostReduceAdd_single reducesTo_S9216x64_S9216_d1 h x _ _).trans ?_
  rw [show (constant (F := Ideal) S_ .f32 0x00000000#32) (Shape.Idx.first h_S_) = 0 from Ideal.ofBits_zero_f32, zero_add]
  refine Finset.sum_congr rfl fun c _ => congrArg x ?_
  funext a
  fin_cases a <;> rfl

theorem sum_codes (x : FVec Ideal S8192x64 .f32) (j : Fin 8192) :
    Host.reduceAdd x (constant S_ .f32 0x00000000#32) reducesTo_S8192x64_S8192_d1 h_S_ (ix1 j) = ∑ c : Fin 64, x (ix2 j c) := by
  have h : Shape.Reduces S8192x64 [1] S8192 := by decide
  refine (Ideal.hostReduceAdd_single reducesTo_S8192x64_S8192_d1 h x _ _).trans ?_
  rw [show (constant (F := Ideal) S_ .f32 0x00000000#32) (Shape.Idx.first h_S_) = 0 from Ideal.ofBits_zero_f32, zero_add]
  refine Finset.sum_congr rfl fun c _ => congrArg x ?_
  funext a
  fin_cases a <;> rfl

theorem rdist_apply (z : FVec Ideal S9216x64 .f32) (e : FVec Ideal S8192x64 .f32) (r : Fin 9216) (j : Fin 8192) :
    rdist z e (ix2 r j) = (∑ c : Fin 64, z (ix2 r c) * z (ix2 r c) - ((2 : ℝ) : EReal) * ∑ c : Fin 64, z (ix2 r c) * e (ix2 j c))
      + ∑ c : Fin 64, e (ix2 j c) * e (ix2 j c) := by
  unfold rdist
  refine congrArg₂ (· + ·) (congrArg₂ (· - ·) ?_ (congrArg₂ (· * ·) ?_ ?_)) ?_
  · refine (broadcastInDim_apply _ _ _ _ (ix2 r 0) fun a => ?_).trans ((broadcastInDim_apply _ _ _ _ (ix1 r) fun a => ?_).trans (sum_rows _ r))
    · fin_cases a <;> rfl
    · fin_cases a <;> rfl
  · exact bits_two
  · refine (Ideal.dotGeneral_apply _ _ _ _ _ _).trans ((sum_contr _ 64 rfl rfl _).trans (Finset.sum_congr rfl fun k _ => ?_))
    refine congrArg₂ (· * ·) (congrArg z ?_) ?_
    · funext a
      fin_cases a <;> rfl
    · refine Eq.trans (congrArg _ (?_ : _ = ix2 k j)) (transpose_ix2_apply _ _ _ _)
      funext a
      fin_cases a <;> rfl
  · refine (broadcastInDim_apply _ _ _ _ (ix2 0 j) fun a => ?_).trans ((broadcastInDim_apply _ _ _ _ (ix1 j) fun a => ?_).trans (sum_codes _ j))
    · fin_cases a <;> rfl
    · fin_cases a <;> rfl

theorem rloss_apply (q z : FVec Ideal S9216x64 .f32) (i : S_.Idx) :
    rloss q z i = Ideal.div (∑ r : Fin 9216, ∑ c : Fin 64, (q (ix2 r c) - z (ix2 r c)) * (q (ix2 r c) - z (ix2 r c))) (Ideal.ofBits .f32 0x49100000#32) := by
  refine congrArg (fun a => Ideal.div a (Ideal.ofBits .f32 0x49100000#32)) ?_
  refine (Ideal.hostReduceAdd_total reducesTo_S9216x64_S_d0_1 (fun b => b.elim0) _ _ _).trans ?_
  rw [show (constant (F := Ideal) S_ .f32 0x00000000#32) (Shape.Idx.first h_S_) = 0 from Ideal.ofBits_zero_f32, zero_add, sum_idx2]
  rfl

theorem rout_apply (q z : FVec Ideal S9216x64 .f32) (w : FVec Ideal S64x768 .f32) (b : FVec Ideal S768 .f32) (t : Fin 16) (o : Fin 768) (n : Fin 576) :
    rout q z w b (ix3 t o n) = (∑ c : Fin 64, (z (ix2 (row t n) c) + (q (ix2 (row t n) c) - z (ix2 (row t n) c))) * w (ix2 c o)) + b (ix1 o) := by
  unfold rout
  refine (transpose_ix3_021_apply _ _ _ _ _).trans (congrArg₂ (· + ·) ?_ ?_)
  · refine (Ideal.dotGeneral_apply _ _ _ _ _ _).trans ((sum_contr _ 64 rfl rfl _).trans (Finset.sum_congr rfl fun k _ => ?_))
    refine congrArg₂ (· * ·) ?_ (congrArg w ?_)
    · refine Eq.trans (congrArg _ (?_ : _ = ix3 t n k)) ((shapeCast_apply _ _ _ (ix2 (row t n) k) ?_).trans rfl)
      · funext a
        fin_cases a <;> rfl
      · rw [Shape.rowMajor_val_three, Shape.rowMajor_val_two]
        rfl
    · funext a
      fin_cases a <;> rfl
  · refine (broadcastInDim_apply _ _ _ _ (ix3 0 0 o) fun a => ?_).trans (broadcastInDim_apply _ _ _ _ (ix1 o) fun a => ?_)
    · fin_cases a <;> rfl
    · fin_cases a <;> rfl

theorem rcodes_apply {F : FTy → Type} [FloatOps F] (i : IVec S9216 32) (t : Fin 16) (n : Fin 576) : rcodes i (ix2 t n) = i (ix1 (row t n)) := by
  unfold rcodes
  refine shapeCast_apply _ _ _ (ix1 (row t n)) ?_
  rw [Shape.rowMajor_val_one, Shape.rowMajor_val_two]
  rfl

/-! ## The rows taken -/

theorem rwrap_apply {F : FTy → Type} [FloatOps F] (i : IVec S9216 32) (r : Fin 9216) (h : (i (ix1 r)).toNat < 8192) (u : Fin 1) : rwrap i (ix2 r u) = i (ix1 r) := by
  unfold rwrap
  refine (broadcastInDim_apply _ _ _ _ (ix1 r) fun a => ?_).trans ?_
  · fin_cases a
    rfl
  · have hn : IntOp.cmpi .slt (i (ix1 r)) 0#32 = 0#1 := by
      have h1 := toInt_small (a := i (ix1 r)) rfl (by omega)
      simp only [IntOp.cmpi, BitVec.slt, h1]
      rw [decide_eq_false (by have : (0#32 : BitVec 32).toInt = 0 := by decide
                              omega)]
      rfl
    show Scalar.select (IntOp.cmpi .slt (i (ix1 r)) 0#32) _ (i (ix1 r)) = _
    rw [hn]
    rfl

theorem rin_one {F : FTy → Type} [FloatOps F] (i : IVec S9216x1 32) (h : ∀ x, (i x).toNat < 8192) (r : Fin 9216) : rin i (ix1 r) = 1#1 := by
  unfold rin
  refine Host.reduce_andi_one _ _ _ _ _ rfl fun x => ?_
  show IntOp.andi (IntOp.cmpi .sge (i x) 0#32) (IntOp.cmpi .sle (i x) 8191#32) = 1#1
  have h1 := toInt_small (a := i x) rfl (by have := h x; omega)
  have h2 := h x
  have a1 : IntOp.cmpi .sge (i x) 0#32 = 1#1 := by
    simp [IntOp.cmpi, BitVec.sle, h1]
  have a2 : IntOp.cmpi .sle (i x) 8191#32 = 1#1 := by
    simp only [IntOp.cmpi, BitVec.sle, h1]
    rw [decide_eq_true (by have : (8191#32 : BitVec 32).toInt = 8191 := by decide
                           omega)]
    rfl
  rw [a1, a2]
  rfl

theorem rtake_apply (e : FVec Ideal S8192x64 .f32) (i : IVec S9216 32) (h : ∀ x, (i x).toNat < 8192) (r : Fin 9216) (c : Fin 64) :
    rtake e i (ix2 r c) = e (ix2 ⟨(i (ix1 r)).toNat, h _⟩ c) := by
  have hw : ∀ x, (rwrap i x).toNat < 8192 := fun x => by
    obtain ⟨a, b, rfl⟩ : ∃ (a : Fin 9216) (b : Fin 1), x = ix2 a b := ⟨x 0, x 1, eq_ix2 x⟩
    rw [rwrap_apply (F := Ideal) i _ (h _)]
    exact h _
  have h1 : broadcastInDim S9216x64 ![0] bcast_S9216_S9216x64_0 (rin (rwrap i)) (ix2 r c) = 1#1 := by
    refine (broadcastInDim_apply _ _ _ _ (ix1 r) fun a => ?_).trans (rin_one (F := Ideal) _ hw r)
    fin_cases a
    rfl
  unfold rtake
  show Scalar.select (broadcastInDim S9216x64 ![0] bcast_S9216_S9216x64_0 (rin (rwrap i)) (ix2 r c))
    (Host.gather gather_S8192x64_S9216x1_S9216x64_1_0_n_n_0_1_164 e (rwrap i) (ix2 r c)) _ = _
  rw [h1]
  refine congrArg e ?_
  have hs : ∀ k, (gather_S8192x64_S9216x1_S9216x64_1_0_n_n_0_1_164).siIdx (ix2 r c) k = ix2 r 0 := fun k => by
    funext a
    fin_cases a
    · rfl
    · exact Subsingleton.elim (α := Fin 1) _ _
  funext a
  fin_cases a
  · refine Fin.ext ?_
    show (gather_S8192x64_S9216x1_S9216x64_1_0_n_n_0_1_164).start (ix2 r c) (rwrap i) 0 + 0 + 0 = (i (ix1 r)).toNat
    unfold GatherDims.start
    rw [dif_pos (by decide), hs, rwrap_apply (F := Ideal) i _ (h _), toInt_small rfl (by have := h (ix1 r); omega)]
    show min ((i (ix1 r)).toNat) (8192 - 1) + 0 + 0 = _
    have := h (ix1 r)
    omega
  · refine Fin.ext ?_
    have h2 : (gather_S8192x64_S9216x1_S9216x64_1_0_n_n_0_1_164).start (ix2 r c) (rwrap i) (1 : Fin 2) = 0 := by
      unfold GatherDims.start
      rw [dif_neg (by decide)]
    have h3 : (gather_S8192x64_S9216x1_S9216x64_1_0_n_n_0_1_164).batchCoord (ix2 r c) (1 : Fin 2) = 0 :=
      GatherDims.batchCoord_eq_zero _ _ _ (by decide)
    have h4 : (gather_S8192x64_S9216x1_S9216x64_1_0_n_n_0_1_164).offCoord (ix2 r c) (1 : Fin 2) = c.val := by
      unfold GatherDims.offCoord
      rw [dif_pos (by decide)]
      rfl
    show (gather_S8192x64_S9216x1_S9216x64_1_0_n_n_0_1_164).start (ix2 r c) (rwrap i) (1 : Fin 2) +
      (gather_S8192x64_S9216x1_S9216x64_1_0_n_n_0_1_164).batchCoord (ix2 r c) (1 : Fin 2) +
      (gather_S8192x64_S9216x1_S9216x64_1_0_n_n_0_1_164).offCoord (ix2 r c) (1 : Fin 2) = c.val
    rw [h2, h3, h4, Nat.zero_add]

end Cert.Proof.R

end
-- ==== Proof.RArg.lean ====
/-
  The reference's choice of a row: its fold over a token's distances, in the order of the rows, ends at the first row
  that has the least one.
-/
module

public import proofs.«01_k».proof.Proof.RefRun
public import proofs.«01_k».proof.Proof.KVals
public import Mathlib.Data.List.Sort
public import Mathlib.Data.List.FinRange

@[expose] public section

noncomputable section

namespace Cert.Proof.R

open Cert.ReferenceIdeal Cert.ReferenceIdeal.Gen
open Idealize.ShloMosaic Idealize.ShloMosaic.Tactic Idealize.ShloMosaic.ValueIdx

/-- The elements of an array's row, in row-major order. -/
theorem row_list {M N : ℕ} (h : (⟨2, ![M, N]⟩ : Shape).ReducesTo [1] ⟨1, ![M]⟩) (r : Fin M) :
    ((List.finRange (⟨2, ![M, N]⟩ : Shape).numel).filter fun n => h.drop ((⟨2, ![M, N]⟩ : Shape).rowMajor.symm n) = ix1 r)
      = (List.finRange N).map fun k => (⟨2, ![M, N]⟩ : Shape).rowMajor (ix2 r k) := by
  refine List.Pairwise.eq_of_mem_iff (r := (· < ·)) ((List.pairwise_lt_finRange _).filter _) ?_ fun n => ?_
  · refine List.pairwise_map.2 ((List.pairwise_lt_finRange N).imp fun {a b} hab => ?_)
    show ((⟨2, ![M, N]⟩ : Shape).rowMajor (ix2 r a)).val < ((⟨2, ![M, N]⟩ : Shape).rowMajor (ix2 r b)).val
    rw [Shape.rowMajor_val_two, Shape.rowMajor_val_two]
    exact Nat.add_lt_add_left hab _
  · have hd : ∀ x : (⟨2, ![M, N]⟩ : Shape).Idx, h.drop x = ix1 (x 0) := fun x => by
      funext b
      fin_cases b
      rfl
    rw [List.mem_filter, List.mem_map]
    constructor
    · rintro ⟨_, hn⟩
      have hn := of_decide_eq_true hn
      rw [hd] at hn
      refine ⟨(⟨2, ![M, N]⟩ : Shape).rowMajor.symm n 1, List.mem_finRange _, ?_⟩
      have h0 : (⟨2, ![M, N]⟩ : Shape).rowMajor.symm n 0 = r := congrFun hn 0
      rw [← h0]
      exact (congrArg _ (eq_ix2 _).symm).trans (Equiv.apply_symm_apply _ _)
    · rintro ⟨k, _, rfl⟩
      refine ⟨List.mem_finRange _, decide_eq_true ?_⟩
      rw [hd, Equiv.symm_apply_apply]
      rfl

/-- A row of an array, as a sequence. -/
def drow {M N : ℕ} (d : (⟨2, ![M, N]⟩ : Shape).Idx → EReal) (r : Fin M) (k : ℕ) : EReal := if h : k < N then d (ix2 r ⟨k, h⟩) else 0

theorem red_first (a : EReal) : reducer_argmin_f32_i32 (F := Ideal) (⊤, 0#32) (a, 0#32) = (a, 0#32) := by
  have h1 : Ideal.cmp .olt ⊤ a = 0#1 := by simp [Ideal.cmp]
  have h2 : Ideal.cmp .une (⊤ : EReal) ⊤ = 0#1 := by simp [Ideal.cmp]
  show (Scalar.select (IntOp.ori (Ideal.cmp .olt ⊤ a) (Ideal.cmp .une ⊤ ⊤)) ⊤ a,
    Scalar.select (IntOp.ori (IntOp.ori (Ideal.cmp .olt ⊤ a) (Ideal.cmp .une ⊤ ⊤)) (IntOp.andi (Ideal.cmp .oeq ⊤ a) (IntOp.cmpi .slt 0#32 0#32))) 0#32 0#32) = _
  rw [h1, h2]
  refine Prod.ext rfl ?_
  unfold Scalar.select
  exact ite_self _

theorem red_step (m a : EReal) (i : BitVec 32) (k : ℕ) (hk : k < 8192) (hi : i.toNat < k) :
    reducer_argmin_f32_i32 (F := Ideal) (m, i) (a, BitVec.ofNat 32 k) = if m ≤ a then (m, i) else (a, BitVec.ofNat 32 k) := by
  have h2 : Ideal.cmp .une m m = 0#1 := by simp [Ideal.cmp]
  have hk' : (BitVec.ofNat 32 k).toNat = k := by rw [BitVec.toNat_ofNat]; omega
  have h3 : IntOp.cmpi .slt i (BitVec.ofNat 32 k) = 1#1 := by
    simp only [IntOp.cmpi, BitVec.slt, toInt_small hk' (by omega), toInt_small (a := i) rfl (by omega)]
    rw [decide_eq_true (by omega)]
    rfl
  show (Scalar.select (IntOp.ori (Ideal.cmp .olt m a) (Ideal.cmp .une m m)) m a,
    Scalar.select (IntOp.ori (IntOp.ori (Ideal.cmp .olt m a) (Ideal.cmp .une m m)) (IntOp.andi (Ideal.cmp .oeq m a) (IntOp.cmpi .slt i (BitVec.ofNat 32 k)))) i (BitVec.ofNat 32 k)) = _
  rw [h2, h3]
  rcases lt_trichotomy m a with h | h | h
  · have h1 : Ideal.cmp .olt m a = 1#1 := by simp [Ideal.cmp, h]
    have h4 : Ideal.cmp .oeq m a = 0#1 := by simp [Ideal.cmp, h.ne]
    rw [h1, h4, if_pos h.le]
    rfl
  · subst h
    have h1 : Ideal.cmp .olt m m = 0#1 := by simp [Ideal.cmp]
    have h4 : Ideal.cmp .oeq m m = 1#1 := by simp [Ideal.cmp]
    rw [h1, h4, if_pos le_rfl]
    rfl
  · have h1 : Ideal.cmp .olt m a = 0#1 := by simp [Ideal.cmp, not_lt.2 h.le]
    have h4 : Ideal.cmp .oeq m a = 0#1 := by simp [Ideal.cmp, h.ne']
    rw [h1, h4, if_neg (not_le.2 h)]
    rfl

/-- A reduction of two operands over the columns, at a row. -/
theorem reduce2_row {M N : ℕ} {α β : Type} {u : Shape} (op : α × β → α × β → α × β) (x : (⟨2, ![M, N]⟩ : Shape).Idx → α) (y : (⟨2, ![M, N]⟩ : Shape).Idx → β)
    (ix : u.Idx → α) (iy : u.Idx → β) (h : (⟨2, ![M, N]⟩ : Shape).ReducesTo [1] ⟨1, ![M]⟩) (hu : 0 < u.numel) (r : Fin M) :
    Host.reduce2 op x y ix iy h hu (ix1 r)
      = (List.finRange N).foldl (fun a k => op a (x (ix2 r k), y (ix2 r k))) (ix (Shape.Idx.first hu), iy (Shape.Idx.first hu)) := by
  unfold Host.reduce2
  rw [row_list h r, List.foldl_map]
  refine congrArg (fun g => List.foldl g _ _) ?_
  funext a k
  rw [Equiv.symm_apply_apply]

theorem foldl_finRange {α : Type} (n : ℕ) (g : α → Fin n → α) (g' : α → ℕ → α) (hg : ∀ a k, g a k = g' a k.val) (a : α) :
    (List.finRange n).foldl g a = (List.range n).foldl g' a := by
  rw [← List.map_coe_finRange_eq_range, List.foldl_map]
  refine congrArg (fun g => List.foldl g _ _) ?_
  funext a k
  exact hg a k

/-- The fold over a row, from infinity and row 0. -/
theorem arg_row {M n : ℕ} {u : Shape} (hn : n < 8192) (d : (⟨2, ![M, n + 1]⟩ : Shape).Idx → EReal) (y : (⟨2, ![M, n + 1]⟩ : Shape).Idx → BitVec 32)
    (hy : ∀ r k, y (ix2 r k) = BitVec.ofNat 32 k.val) (ix : u.Idx → EReal) (iy : u.Idx → BitVec 32)
    (h : (⟨2, ![M, n + 1]⟩ : Shape).ReducesTo [1] ⟨1, ![M]⟩) (hu : 0 < u.numel) (hx : ix (Shape.Idx.first hu) = ⊤) (hi : iy (Shape.Idx.first hu) = 0#32) (r : Fin M) :
    ∃ m i, Host.reduce2 (reducer_argmin_f32_i32 (F := Ideal)) d y ix iy h hu (ix1 r) = (m, i) ∧ IsArg (drow d r) 0 (n + 1) m i.toNat := by
  obtain ⟨m, i, h1, h2⟩ := fold_arg (drow d r) (reducer_argmin_f32_i32 (F := Ideal)) (red_first _) (fun m i k hk hi => red_step m _ i k hk hi) n hn
  refine ⟨m, i, ?_, h2⟩
  rw [reduce2_row, hx, hi, ← h1]
  refine foldl_finRange _ _ _ (fun a k => ?_) _
  unfold drow
  rw [dif_pos k.isLt, hy]

/-- The codes of the reference, as the second half of its joint fold. -/
theorem rarg_eq {F : FTy → Type} [FloatOps F] (d : FVec F S9216x8192 .f32) : rarg d = fun j => (Host.argReduce (reducer_argmin_f32_i32 (F := F)) d
    (iotaInDim S9216x8192 32 1) (constant (F := F) S_ .f32 0x7F800000#32) (constantI S_ 32 0#32) reducesTo_S9216x8192_S9216_d1 h_S_ j).2 := rfl

theorem snd_of {ι α β : Type} {f : ι → β} {g k : ι → α × β} (h : f = fun j => (g j).2) (e : g = k) (j : ι) {m : α} {i : β} (hj : k j = (m, i)) :
    f j = i := by
  subst h
  show (g j).2 = i
  rw [e, hj]

theorem rarg_arg (d : FVec Ideal S9216x8192 .f32) (r : Fin 9216) : ∃ m, IsArg (drow d r) 0 8192 m (rarg d (ix1 r)).toNat := by
  obtain ⟨m, i, h1, h2⟩ := arg_row (n := 8191) (by omega) d (iotaInDim S9216x8192 32 1) (fun _ _ => rfl) (constant (F := Ideal) S_ .f32 0x7F800000#32)
    (constantI S_ 32 0#32) reducesTo_S9216x8192_S9216_d1 h_S_ top_bits rfl r
  have e : rarg d (ix1 r) = i := snd_of (rarg_eq d) (Ideal.argReduce_eq_reduce2 (reducer_argmin_f32_i32 (F := Ideal)) d (iotaInDim S9216x8192 32 1)
    (constant (F := Ideal) S_ .f32 0x7F800000#32) (constantI S_ 32 0#32) reducesTo_S9216x8192_S9216_d1 h_S_) (ix1 r) h1
  exact ⟨m, e ▸ h2⟩

end Cert.Proof.R

end
-- ==== Proof.Join.lean ====
/-
  The arrays the program leaves against the reference's values, for finite inputs: the latents, the distances, the
  codes, the rows looked up, the distances at the codes, and from these the three results.
-/
module

public import proofs.«01_k».proof.Proof.Ends
public import proofs.«01_k».proof.Proof.RVals
public import proofs.«01_k».proof.Proof.RArg
public import Mathlib.Algebra.BigOperators.Fin
public import Mathlib.Logic.Equiv.Fin.Basic

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Cert.Proof.R (row)

/-! ## Rows -/

theorem row_surj (r : Fin 9216) : ∃ t n, r = row t n :=
  ⟨⟨r.val / 576, by omega⟩, ⟨r.val % 576, Nat.mod_lt _ (by decide)⟩, Fin.ext (by show r.val = r.val / 576 * 576 + r.val % 576; omega)⟩

theorem sum_row (f : Fin 9216 → EReal) : ∑ r, f r = ∑ t : Fin 16, ∑ n : Fin 576, f (row t n) := by
  refine ((finProdFinEquiv (m := 16) (n := 576)).sum_comp f).symm.trans ((Fintype.sum_prod_type _).trans ?_)
  refine Finset.sum_congr rfl fun t _ => Finset.sum_congr rfl fun n _ => congrArg f (Fin.ext ?_)
  show n.val + 576 * t.val = t.val * 576 + n.val
  omega

/-- A running sum. -/
theorem sum_acc (f g : ℕ → EReal) (h0 : g 0 = f 0) (hs : ∀ n, g (n + 1) = g n + f (n + 1)) (k m : ℕ) (e : k + 1 = m) : g k = ∑ t : Fin m, f t.val := by
  subst e
  rw [Fin.sum_univ_eq_sum_range f]
  induction k with
  | zero => rw [Finset.sum_range_one, h0]
  | succ k ih => rw [Finset.sum_range_succ, ← ih, hs]

variable (U : Valuation τ sig (Elt Ideal)) (d : Dev nD)

/-! ## The arguments and the reference's values of them -/

/-- The images. -/
def xU : S16x768x576.Idx → EReal := U (Proc.devRef .tc main_arg0)
/-- The weights of the projection in. -/
def wU : S768x64.Idx → EReal := U (Proc.devRef .tc main_arg1)
/-- The offsets of the projection in. -/
def bU : S64.Idx → EReal := U (Proc.devRef .tc main_arg2)
/-- The codebook. -/
def eU : S8192x64.Idx → EReal := U (Proc.devRef .tc main_arg5)
/-- The latents. -/
def zU : Cert.ReferenceIdeal.S9216x64.Idx → EReal := R.rz (F := Ideal) (xU U) (wU U) (bU U)
/-- The distances. -/
def dU : Cert.ReferenceIdeal.S9216x8192.Idx → EReal := R.rdist (F := Ideal) (zU U) (eU U)
/-- The codes. -/
def iU : Cert.ReferenceIdeal.S9216.Idx → BitVec 32 := R.rarg (F := Ideal) (dU U)
/-- The rows looked up. -/
def qU : Cert.ReferenceIdeal.S9216x64.Idx → EReal := R.rtake (F := Ideal) (eU U) (iU U)

/-- The inputs the distances are of are finite. -/
structure Finite : Prop where
  x : ∀ i, IsR (xU U i)
  w : ∀ i, IsR (wU U i)
  b : ∀ i, IsR (bU U i)
  e : ∀ i, IsR (eU U i)

variable {U}

/-! ## The block of an image -/

theorem pnt_fin (t : Fin 16) : (⟨(pnt t.val).val, t_lt _⟩ : Fin 16) = t := Fin.ext (Nat.mod_eq_of_lt t.isLt)

theorem xblk (t : Fin 16) (k : Fin 768) (n : Fin 576) : blk0 (Va U) 0 (pnt t.val) (ix3 (n0 := 1) 0 k n) = xU U (ix3 t k n) := by
  rw [blk0_0_apply, pnt_fin, Va_of_ne U (r := main_arg0) (by decide)]
  rfl

/-- The offsets, as a row. -/
def bT (U : Valuation τ sig (Elt Ideal)) : S1x64.Idx → EReal := shapeCast S1x64 (bU U) shapeCasts_S64_S1x64

theorem asg_eq (t : Fin 16) : asgAt (Va U) (pnt t.val) = asgOf (F := Ideal) (blk0 (Va U) 0 (pnt t.val)) (wU U) (bT U) (eU U) := by
  have h1 : blk0 (Va U) 1 (pnt t.val) = wU U := (blk0_1_eq (Va U) _).trans (Va_of_ne U (r := main_arg1) (by decide))
  have h2 : blk0 (Va U) 2 (pnt t.val) = bT U := (blk0_2_eq (Va U) _).trans (Va_v0 U)
  have h3 : blk0 (Va U) 3 (pnt t.val) = eU U := (blk0_3_eq (Va U) _).trans (Va_of_ne U (r := main_arg5) (by decide))
  rw [← h1, ← h2, ← h3]

theorem lat_eq (t : Fin 16) (n : Fin 576) (c : Fin 64) :
    k0_pay4 (F := Ideal) (blk0 (Va U) 0 (pnt t.val)) (wU U) (bT U) (ix2 n c) = zU U (ix2 (row t n) c) := by
  rw [pay4_apply]
  refine Eq.trans ?_ (R.rz_apply (xU U) (wU U) (bU U) t n c).symm
  refine congrArg₂ (· + ·) (Finset.sum_congr rfl fun k _ => congrArg (· * _) (xblk t k n)) ?_
  exact shapeCast_a_1a_apply _ _ _ _

theorem distB_lat (t : Fin 16) (n : Fin 576) (j : Fin 8192) : distB (blk0 (Va U) 0 (pnt t.val)) (wU U) (bT U) (eU U) n j.val
    = (∑ c : Fin 64, zU U (ix2 (row t n) c) * zU U (ix2 (row t n) c) + ∑ c : Fin 64, zU U (ix2 (row t n) c) * (((-2 : ℝ) : EReal) * eU U (ix2 j c)))
      + ∑ c : Fin 64, eU U (ix2 j c) * eU U (ix2 j c) :=
  (distB_apply (blk0 (Va U) 0 (pnt t.val)) (wU U) (bT U) (eU U) n j).trans
    (congrArg (fun z : Fin 64 → EReal => (∑ c, z c * z c + ∑ c, z c * (((-2 : ℝ) : EReal) * eU U (ix2 j c))) + ∑ c, eU U (ix2 j c) * eU U (ix2 j c))
      (funext (lat_eq t n)))

theorem distB_at (t : Fin 16) (n : Fin 576) (k : ℕ) (hk : k < 8192) : distB (blk0 (Va U) 0 (pnt t.val)) (wU U) (bT U) (eU U) n k
    = (∑ c : Fin 64, zU U (ix2 (row t n) c) * zU U (ix2 (row t n) c) + ∑ c : Fin 64, zU U (ix2 (row t n) c) * (((-2 : ℝ) : EReal) * eU U (ix2 ⟨k, hk⟩ c)))
      + ∑ c : Fin 64, eU U (ix2 ⟨k, hk⟩ c) * eU U (ix2 ⟨k, hk⟩ c) := distB_lat t n ⟨k, hk⟩

/-- A row of the table the tiles read. -/
theorem tab_row (e : S8192x64.Idx → EReal) (k : ℕ) (hk : k < 8192) (c : Fin 64) :
    cbpOf (F := Ideal) e (tIx k (c.castLE (by decide))) = e (ix2 ⟨k, hk⟩ c) := by
  refine (cbpOf_lt (F := Ideal) e (p := tIx k (c.castLE (by decide))) (show c.val < 64 from c.isLt)).trans (congrArg e (funext fun a => Fin.ext ?_))
  match a with
  | ⟨0, _⟩ => exact Nat.mod_eq_of_lt hk
  | ⟨1, _⟩ => rfl

variable (h : Finite U)

include h

theorem z_fin (t : Fin 16) (n : Fin 576) (c : Fin 64) : IsR (zU U (ix2 (row t n) c)) := by
  have e := R.rz_apply (xU U) (wU U) (bU U) t n c
  unfold zU
  rw [e]
  exact (IsR.sum _ fun k => (h.x _).mul (h.w _)).add (h.b _)

theorem dist_eq (t : Fin 16) (n : Fin 576) (j : Fin 8192) :
    distB (blk0 (Va U) 0 (pnt t.val)) (wU U) (bT U) (eU U) n j.val = dU U (ix2 (row t n) j) := by
  refine (distB_lat t n j).trans ?_
  exact (dist_two (fun c => zU U (ix2 (row t n) c)) (fun c => eU U (ix2 j c)) (z_fin h t n) fun c => h.e _).trans
    (R.rdist_apply (zU U) (eU U) (row t n) j).symm

/-- The program's codes are the reference's. -/
theorem code_eq (t : Fin 16) (n : Fin 576) : (asgAt (Va U) (pnt t.val)).2 (ix3 0 0 n) = iU U (Idealize.ShloMosaic.ValueIdx.ix1 (row t n)) := by
  obtain ⟨m, hm⟩ := R.rarg_arg (dU U) (row t n)
  have ha := asg_arg (blk0 (Va U) 0 (pnt t.val)) (wU U) (bT U) (eU U) n
  rw [← asg_eq] at ha
  have hd : IsArg (distB (blk0 (Va U) 0 (pnt t.val)) (wU U) (bT U) (eU U) n) 0 8192 m (iU U (ix1 (row t n))).toNat := by
    refine hm.congr fun j _ hj => ?_
    unfold R.drow
    rw [dif_pos hj]
    exact (dist_eq h t n ⟨j, hj⟩).symm
  exact BitVec.eq_of_toNat_eq (ha.unique hd).2

omit h in
theorem i_lt (x : Cert.ReferenceIdeal.S9216.Idx) : (iU U x).toNat < 8192 := by
  obtain ⟨r, rfl⟩ : ∃ r : Fin 9216, x = ix1 r := ⟨x 0, funext fun a => by match a with | ⟨0, _⟩ => rfl⟩
  obtain ⟨m, hm⟩ := R.rarg_arg (dU U) r
  exact hm.2.1

omit h in
theorem q_apply (r : Fin 9216) (c : Fin 64) : qU U (ix2 r c) = eU U (ix2 ⟨(iU U (ix1 r)).toNat, i_lt _⟩ c) :=
  R.rtake_apply (eU U) (iU U) i_lt r c

theorem q_fin (r : Fin 9216) (c : Fin 64) : IsR (qU U (ix2 r c)) := by
  rw [q_apply]
  exact h.e _

/-- The distance at the code is the sum of the squared differences. -/
theorem best_eq (t : Fin 16) (n : Fin 576) : (asgAt (Va U) (pnt t.val)).1 (ix2 n 0)
    = ∑ c : Fin 64, (qU U (ix2 (row t n) c) - zU U (ix2 (row t n) c)) * (qU U (ix2 (row t n) c) - zU U (ix2 (row t n) c)) := by
  have ha := asg_arg (blk0 (Va U) 0 (pnt t.val)) (wU U) (bT U) (eU U) n
  rw [← asg_eq, code_eq h] at ha
  refine ha.2.2.1.symm.trans ((distB_at t n _ (i_lt _)).trans ?_)
  simp only [q_apply]
  exact dist_sq (fun c => zU U (ix2 (row t n) c)) (fun c => eU U (ix2 ⟨(iU U (ix1 (row t n))).toNat, i_lt _⟩ c)) (z_fin h t n) fun c => h.e _

omit h in
theorem loss_zero {F : FTy → Type} [FloatOps F] (V : Valuation τ sig (Elt F)) : lossAt V 0 = k0_pay1 (asgAt V (pnt 0)).1 := rfl
omit h in
theorem loss_succ {F : FTy → Type} [FloatOps F] (V : Valuation τ sig (Elt F)) (n : ℕ) :
    lossAt V (n + 1) = k0_pay2 (asgAt V (pnt (n + 1))).1 (lossAt V n) := rfl

omit h in
theorem loss_sum (V : Valuation τ sig (Elt Ideal)) :
    (lossAt V 15 : EReal) = ∑ t : Fin 16, ∑ n : Fin 576, ((asgAt V (pnt t.val)).1 (ix2 n 0) : EReal) :=
  sum_acc (fun t => ∑ n : Fin 576, ((asgAt V (pnt t)).1 (ix2 n 0) : EReal)) (fun t => lossAt V t)
    ((loss_zero V).trans (pay1_apply _)) (fun t => (loss_succ V t).trans ((pay2_apply _ _).trans (congrArg _ (pay1_apply _)))) 15 16 rfl

/-- The loss before the division. -/
theorem loss_total : (lossAt (Va U) 15 : EReal)
    = ∑ r : Fin 9216, ∑ c : Fin 64, (qU U (ix2 r c) - zU U (ix2 r c)) * (qU U (ix2 r c) - zU U (ix2 r c)) := by
  rw [loss_sum (Va U), sum_row]
  exact Finset.sum_congr rfl fun t _ => Finset.sum_congr rfl fun n _ => best_eq h t n

/-! ## The codes -/

theorem codes_res : (shapeCast S16x576 (codesG (Va U)) shapeCasts_S16x1x576_S16x576 : S16x576.Idx → BitVec 32) = R.rcodes (iU U) := by
  funext i
  obtain ⟨t, n, rfl⟩ : ∃ (t : Fin 16) (n : Fin 576), i = ix2 t n := ⟨i 0, i 1, eq_ix2 i⟩
  refine (shapeCast_apply (s := S16x1x576) _ _ _ (ix3 t 0 n) ?_).trans ((code_eq h t n).trans (R.rcodes_apply (F := Ideal) _ t n).symm)
  rw [Shape.rowMajor_val_three, Shape.rowMajor_val_two]
  show (t.val * 1 + 0) * 576 + n.val = t.val * 576 + n.val
  omega

/-! ## The loss -/

theorem loss_res : (Host.divf (F := Ideal) (shapeCast S_ (fun _ => lossAt (Va U) 15 : S1x1.Idx → EReal) shapeCasts_S1x1_S_)
    (constant (F := Ideal) S_ .f32 0x49100000#32) : S_.Idx → EReal) = R.rloss (F := Ideal) (qU U) (zU U) := by
  funext i
  refine Eq.trans ?_ (R.rloss_apply (qU U) (zU U) i).symm
  exact congrArg (Ideal.div · _) (loss_total h)

/-! ## The rows gathered, and their projection -/

omit h in
/-- The indices dealt to the tiles. -/
theorem deal_apply (I : S9216.Idx → BitVec 32) (w : S32x3x96.Idx) (r : Fin 9216) (hr : r.val = ((w 0).val * 3 + (w 1).val) * 96 + (w 2).val) :
    shapeCast S32x3x96 I shapeCasts_S9216_S32x3x96 w = I (ix1 r) := by
  refine shapeCast_apply _ _ _ (ix1 r) ?_
  rw [Shape.rowMajor_val_three, Shape.rowMajor_val_one]
  exact hr

theorem flat_code (t : Fin 16) (n : Fin 576) :
    (shapeCast S9216 (codesG (Va U)) shapeCasts_S16x1x576_S9216 : S9216.Idx → BitVec 32) (ix1 (row t n)) = iU U (ix1 (row t n)) := by
  refine (shapeCast_apply (s := S16x1x576) _ _ _ (ix3 t 0 n) ?_).trans (code_eq h t n)
  rw [Shape.rowMajor_val_three, Shape.rowMajor_val_one]
  show (t.val * 1 + 0) * 576 + n.val = t.val * 576 + n.val
  omega

/-- An index of the gathered rows by tile. -/
def gIx (r : Fin 9216) (l : Fin 128) : S32x3x96x128.Idx := fun
  | 0 => ⟨r.val / 288, by show r.val / 288 < 32; omega⟩
  | 1 => ⟨r.val % 288 / 96, by show r.val % 288 / 96 < 3; omega⟩
  | 2 => ⟨r.val % 96, by show r.val % 96 < 96; omega⟩
  | 3 => l

theorem took (t : Fin 16) (n : Fin 576) (c : Fin 64) : Ve U d (Proc.devRef .tc main_v6) (ix3 t n (c.castLE (by decide))) = qU U (ix2 (row t n) c) := by
  rw [Ve_v6]
  refine (shapeCast_apply (s := S9216x128) (t := S16x576x128) _ _ _ (ix2 (row t n) (c.castLE (by decide))) ?_).trans
    ((shapeCast_apply (s := S32x3x96x128) (t := S9216x128) _ _ _ (gIx (row t n) (c.castLE (by decide))) ?_).trans ?_)
  · rw [Shape.rowMajor_val_three, Shape.rowMajor_val_two]
    rfl
  · rw [Shape.rowMajor_val_four, Shape.rowMajor_val_two]
    show (((row t n).val / 288 * 3 + (row t n).val % 288 / 96) * 96 + (row t n).val % 96) * 128 + c.val = (row t n).val * 128 + c.val
    omega
  · unfold gath
    rw [deal_apply _ _ (row t n) (by
      show (row t n).val = ((row t n).val / 288 * 3 + (row t n).val % 288 / 96) * 96 + (row t n).val % 96
      omega), flat_code h, q_apply]
    exact tab_row (eU U) _ (i_lt _) c

theorem out_res : (outG (Ve U d) : S16x768x576.Idx → EReal)
    = R.rout (F := Ideal) (qU U) (zU U) (U (Proc.devRef .tc main_arg3)) (U (Proc.devRef .tc main_arg4)) := by
  funext i
  obtain ⟨t, o, n, rfl⟩ : ∃ (t : Fin 16) (o : Fin 768) (n : Fin 576), i = ix3 t o n := ⟨i 0, i 1, i 2, eq_ix3 i⟩
  refine Eq.trans (proj_apply _ _ _ o n) (Eq.trans ?_ (R.rout_apply (qU U) (zU U) _ _ t o n).symm)
  refine congrArg₂ (· + ·) (Finset.sum_congr rfl fun c _ => ?_) ?_
  · rw [add_sub_self (z_fin h t n c) (q_fin h _ c), mul_comm]
    refine congrArg₂ (· * ·) ?_ (congrFun ((blk2_1_eq (Ve U d) _).trans (Ve_arg3 U d)) _)
    refine (blk2_0_apply (Ve U d) _ n _).trans (Eq.trans ?_ (took d h t n c))
    exact congrArg (fun s : Fin 16 => (Ve U d (Proc.devRef .tc main_v6) : S16x576x128.Idx → EReal) (ix3 s n (c.castLE (by decide)))) (Fin.ext (Nat.mod_eq_of_lt t.isLt))
  · rw [blk2_2_eq, Ve_v7]
    exact shapeCast_a_a1_apply _ _ _ _

end Cert.Proof

end
-- ==== Proof.Pre.lean ====
/-
  The precondition, read: its side conditions, and that every entry of the images, of the projection in and of the
  codebook is then finite.
-/
module

public import proofs.«01_k».proof.Pre_finite_args
public import proofs.«01_k».proof.Proof.Reals
public import proofs.«01_k».proof.Proof.Dist
public import Idealize.ShloMosaic.Lib.ReduceAll
public import Idealize.ShloMosaic.PureOps.Ideal

@[expose] public section

noncomputable section

namespace Cert.Proof.P

open Cert.Pre_finite_args
open Idealize.ShloMosaic

/-- The side conditions of the precondition's operations. -/
instance facts : Cert.Pre_finite_args.Facts where
  bcast_S_S16x768x576 := by decide
  reducesTo_S16x768x576_S_d0_1_2 := by decide
  h_S_ := by decide
  bcast_S_S768x64 := by decide
  reducesTo_S768x64_S_d0_1 := by decide
  bcast_S_S64 := by decide
  reducesTo_S64_S_d0 := by decide
  bcast_S_S8192x64 := by decide
  reducesTo_S8192x64_S_d0_1 := by decide

/-- The conjunction over an array of "this entry's absolute value is below infinity". -/
def allFin {F : FTy → Type} [FloatOps F] {s : Shape} {axes : List (Fin s.rank)} (x : FVec F s .f32) (hb : S_.BroadcastsInDim s (![] : Fin 0 → Fin s.rank)) (hr : s.ReducesTo axes S_) : IVec S_ 1 :=
  Host.reduce IntOp.andi (cmpf .olt (Host.absf x) (broadcastInDim s ![] hb (constant S_ .f32 0x7F800000#32))) (constantI S_ 1 1#1) hr Facts.h_S_

section Parts

variable {F : FTy → Type} [FloatOps F] (x : FVec F S16x768x576 .f32) (w : FVec F S768x64 .f32) (b : FVec F S64 .f32) (wo : FVec F S64x768 .f32)
  (bo : FVec F S768 .f32) (e : FVec F S8192x64 .f32)

theorem fn_x : (fn x w b wo bo e).1 = allFin x Facts.bcast_S_S16x768x576 Facts.reducesTo_S16x768x576_S_d0_1_2 := by unfold fn allFin; dsimp only
theorem fn_w : (fn x w b wo bo e).2.1 = allFin w Facts.bcast_S_S768x64 Facts.reducesTo_S768x64_S_d0_1 := by unfold fn allFin; dsimp only
theorem fn_b : (fn x w b wo bo e).2.2.1 = allFin b Facts.bcast_S_S64 Facts.reducesTo_S64_S_d0 := by unfold fn allFin; dsimp only
theorem fn_e : (fn x w b wo bo e).2.2.2 = allFin e Facts.bcast_S_S8192x64 Facts.reducesTo_S8192x64_S_d0_1 := by unfold fn allFin; dsimp only

end Parts

theorem fin_of_all {s : Shape} {axes : List (Fin s.rank)} (x : FVec Ideal s .f32) (hb : S_.BroadcastsInDim s (![] : Fin 0 → Fin s.rank)) (hr : s.ReducesTo axes S_)
    (h : allFin x hb hr = fun _ => 1#1) (i : s.Idx) : IsR (x i) := by
  have : Subsingleton S_.Idx := ⟨fun a b => funext fun k => k.elim0⟩
  have h1 := Host.reduce_andi_all _ _ hr Facts.h_S_ _ (congrFun h (Shape.Idx.first Facts.h_S_)) i
  have h2 : Ideal.cmp .olt (max (x i) (-(x i))) (Ideal.ofBits .f32 0x7F800000#32) = 1#1 := h1
  rw [top_bits] at h2
  refine isR_of_abs ?_
  by_contra hn
  simp [Ideal.cmp, hn] at h2

end Cert.Proof.P

end
-- ==== Proof.Algebra.lean ====
/-
  The program against the reference: from memories agreeing on the arguments, the entries of the images, of the
  projection in and of the codebook finite, both runs end with equal results.
-/
module

public import proofs.«01_k».proof.Defs
public import proofs.«01_k».proof.Proof.Frames
public import proofs.«01_k».proof.Proof.Join
public import proofs.«01_k».proof.Proof.Pre

@[expose] public section

noncomputable section

namespace Cert.Proof

open Idealize.ShloMosaic Idealize.ShloMosaic.TcCoe Idealize.ShloMosaic.StableHlo Idealize.SL.Sem

namespace R

open Cert.ReferenceIdeal Cert.ReferenceIdeal.Gen

/-- The reference's values, by the arguments. -/
theorem z_of {V : Valuation τ sig (Elt Ideal)} {U : Valuation Cert.KernelIdeal.τ Cert.KernelIdeal.sig (Elt Ideal)}
    (h0 : (V (main_arg0 : DevRef τ sig) : S16x768x576.Idx → EReal) = xU U) (h1 : (V (main_arg1 : DevRef τ sig) : S768x64.Idx → EReal) = wU U)
    (h2 : (V (main_arg2 : DevRef τ sig) : S64.Idx → EReal) = bU U) : zOf V = zU U := by
  unfold zU
  rw [← h0, ← h1, ← h2]
  rfl

theorem i_of {V : Valuation τ sig (Elt Ideal)} {U : Valuation Cert.KernelIdeal.τ Cert.KernelIdeal.sig (Elt Ideal)}
    (hz : zOf V = zU U) (h5 : (V (main_arg5 : DevRef τ sig) : S8192x64.Idx → EReal) = eU U) : iOf V = iU U := by
  unfold iU dU
  rw [← hz, ← h5]
  rfl

theorem q_of {V : Valuation τ sig (Elt Ideal)} {U : Valuation Cert.KernelIdeal.τ Cert.KernelIdeal.sig (Elt Ideal)}
    (hi : iOf V = iU U) (h5 : (V (main_arg5 : DevRef τ sig) : S8192x64.Idx → EReal) = eU U) : qOf V = qU U := by
  unfold qU
  rw [← hi, ← h5]
  rfl

end R

open Cert.KernelIdeal in
theorem finite_of {m : (ℓ : Loc nD τ sig) → Buf (Elt Ideal) ℓ} (h : Cert.Pre_KernelIdeal_finite_args m) (c : Dev nD) : Finite (U0 m c) where
  x := P.fin_of_all _ _ _ ((P.fn_x _ _ _ _ _ _).symm.trans (h c).1)
  w := P.fin_of_all _ _ _ ((P.fn_w _ _ _ _ _ _).symm.trans (h c).2.1)
  b := P.fin_of_all _ _ _ ((P.fn_b _ _ _ _ _ _).symm.trans (h c).2.2.1)
  e := P.fin_of_all _ _ _ ((P.fn_e _ _ _ _ _ _).symm.trans (h c).2.2.2)

theorem frame_kernel_pre : Cert.quiescent_KernelIdeal_pre_finite_args := fun m g _ => frame_kernel m g trivial

theorem frame_reference_pre : Cert.quiescent_ReferenceIdeal_pre_finite_args := fun m g _ => frame_reference m g trivial

theorem algebraic : Cert.algebraic_KernelIdeal_ReferenceIdeal_pre_finite_args := fun m g m' g' hp ha => by
  refine ⟨fun c => Vg (U0 m c) c (Proc.devRef .tc Cert.KernelIdeal.main_v8), fun c => Vg (U0 m c) c (Proc.devRef .tc Cert.KernelIdeal.main_v9),
    fun c => Vg (U0 m c) c (Proc.devRef .tc Cert.KernelIdeal.main_v11),
    θ_run_mono (run_ideal m g) fun _ h c => ⟨QC_at h c _ (by decide), QC_at h c _ (by decide), QC_at h c _ (by decide), QC_arg h c⟩,
    θ_run_mono (R.run_main m' g') fun r h c => ?_⟩
  obtain ⟨h0, h1, h2, h3, h4, h5⟩ := ha c
  have hf := finite_of hp c
  have hz : R.zOf (launchContents m' c) = zU (U0 m c) := R.z_of h0 h1 h2
  have hi : R.iOf (launchContents m' c) = iU (U0 m c) := R.i_of hz h5
  have hq : R.qOf (launchContents m' c) = qU (U0 m c) := R.q_of hi h5
  refine ⟨(h c _).trans ((R.out_eq _).trans ?_), (h c _).trans ((R.codes_eq _).trans ?_), (h c _).trans ((R.loss_eq _).trans ?_), QR_arg h c⟩
  · refine Eq.trans ?_ ((Vg_v8 (U0 m c) c).trans (out_res c hf)).symm
    rw [hq, hz]
    exact congrArg₂ (R.rout (F := Ideal) (qU (U0 m c)) (zU (U0 m c))) h3 h4
  · rw [hi]
    exact ((Vg_v9 (U0 m c) c).trans (codes_res hf)).symm
  · rw [hq, hz]
    exact ((Vg_v11 (U0 m c) c).trans (loss_res hf)).symm

end Cert.Proof

end
-- ==== Proof.lean ====
/-
  The proof of `Cert.Claim`: the frames of the program and of the reference (Proof/Frames.lean), and the program
  against the reference over the reals (Proof/Algebra.lean).
-/
module

public import proofs.«01_k».proof.Defs
public import proofs.«01_k».proof.Proof.Algebra

@[expose] public section

noncomputable section

namespace Cert.Proof

open Idealize.ShloMosaic Idealize.SL.Sem

theorem claim : Cert.Claim :=
  ⟨Cert.KernelIdeal.Gen.facts, Cert.ReferenceIdeal.Gen.facts, P.facts, frame_kernel, frame_kernel_pre, frame_reference, frame_reference_pre, algebraic⟩

end Cert.Proof

end
